-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v231)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v231) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S_ : Shape := ⟨0, ![]⟩
abbrev S12800000 : Shape := ⟨1, ![12800000]⟩
abbrev S128x100000x1 : Shape := ⟨3, ![128, 100000, 1]⟩
abbrev S29 : Shape := ⟨1, ![29]⟩
abbrev S1x1x29 : Shape := ⟨3, ![1, 1, 29]⟩
abbrev S128x100000x29 : Shape := ⟨3, ![128, 100000, 29]⟩
abbrev S128x50048 : Shape := ⟨2, ![128, 50048]⟩
abbrev S128x49952 : Shape := ⟨2, ![128, 49952]⟩
abbrev S128x96 : Shape := ⟨2, ![128, 96]⟩
abbrev S16x100000 : Shape := ⟨2, ![16, 100000]⟩
abbrev S16x50048 : Shape := ⟨2, ![16, 50048]⟩
abbrev S16x2048 : Shape := ⟨2, ![16, 2048]⟩
abbrev S16x896 : Shape := ⟨2, ![16, 896]⟩
abbrev S16x800 : Shape := ⟨2, ![16, 800]⟩
abbrev S16 : Shape := ⟨1, ![16]⟩
abbrev S16x1 : Shape := ⟨2, ![16, 1]⟩

abbrev nBuf : Space → Nat
  | .hbm => 309
  | .vmem => 6
  | .smem => 0
  | _ => 0

abbrev hbmTy0_0 (i : Nat) : BufTy := match i % 128 with
  | 0 => ⟨S128x100000, .f32⟩
  | 1 => ⟨S_, .i32⟩
  | 2 => ⟨S12800000, .i32⟩
  | 3 => ⟨S12800000, .i32⟩
  | 4 => ⟨S_, .i32⟩
  | 5 => ⟨S12800000, .i32⟩
  | 6 => ⟨S12800000, .i32⟩
  | 7 => ⟨S12800000, .i32⟩
  | 8 => ⟨S_, .i32⟩
  | 9 => ⟨S12800000, .i32⟩
  | 10 => ⟨S12800000, .i32⟩
  | 11 => ⟨S_, .i32⟩
  | 12 => ⟨S12800000, .i32⟩
  | 13 => ⟨S12800000, .i32⟩
  | 14 => ⟨S12800000, .i32⟩
  | 15 => ⟨S12800000, .i32⟩
  | 16 => ⟨S12800000, .i32⟩
  | 17 => ⟨S_, .i32⟩
  | 18 => ⟨S12800000, .i32⟩
  | 19 => ⟨S12800000, .i32⟩
  | 20 => ⟨S_, .i32⟩
  | 21 => ⟨S12800000, .i32⟩
  | 22 => ⟨S12800000, .i32⟩
  | 23 => ⟨S12800000, .i32⟩
  | 24 => ⟨S12800000, .i32⟩
  | 25 => ⟨S12800000, .i32⟩
  | 26 => ⟨S_, .i32⟩
  | 27 => ⟨S12800000, .i32⟩
  | 28 => ⟨S12800000, .i32⟩
  | 29 => ⟨S_, .i32⟩
  | 30 => ⟨S12800000, .i32⟩
  | 31 => ⟨S12800000, .i32⟩
  | 32 => ⟨S12800000, .i32⟩
  | 33 => ⟨S12800000, .i32⟩
  | 34 => ⟨S12800000, .i32⟩
  | 35 => ⟨S_, .i32⟩
  | 36 => ⟨S12800000, .i32⟩
  | 37 => ⟨S12800000, .i32⟩
  | 38 => ⟨S_, .i32⟩
  | 39 => ⟨S12800000, .i32⟩
  | 40 => ⟨S12800000, .i32⟩
  | 41 => ⟨S12800000, .i32⟩
  | 42 => ⟨S12800000, .i32⟩
  | 43 => ⟨S_, .i32⟩
  | 44 => ⟨S12800000, .i32⟩
  | 45 => ⟨S12800000, .i32⟩
  | 46 => ⟨S_, .i32⟩
  | 47 => ⟨S12800000, .i32⟩
  | 48 => ⟨S12800000, .i32⟩
  | 49 => ⟨S_, .i32⟩
  | 50 => ⟨S12800000, .i32⟩
  | 51 => ⟨S12800000, .i32⟩
  | 52 => ⟨S12800000, .i32⟩
  | 53 => ⟨S_, .i32⟩
  | 54 => ⟨S12800000, .i32⟩
  | 55 => ⟨S12800000, .i32⟩
  | 56 => ⟨S_, .i32⟩
  | 57 => ⟨S12800000, .i32⟩
  | 58 => ⟨S12800000, .i32⟩
  | 59 => ⟨S12800000, .i32⟩
  | 60 => ⟨S12800000, .i32⟩
  | 61 => ⟨S12800000, .i32⟩
  | 62 => ⟨S_, .i32⟩
  | 63 => ⟨S12800000, .i32⟩
  | 64 => ⟨S12800000, .i32⟩
  | 65 => ⟨S_, .i32⟩
  | 66 => ⟨S12800000, .i32⟩
  | 67 => ⟨S12800000, .i32⟩
  | 68 => ⟨S12800000, .i32⟩
  | 69 => ⟨S12800000, .i32⟩
  | 70 => ⟨S12800000, .i32⟩
  | 71 => ⟨S_, .i32⟩
  | 72 => ⟨S12800000, .i32⟩
  | 73 => ⟨S12800000, .i32⟩
  | 74 => ⟨S_, .i32⟩
  | 75 => ⟨S12800000, .i32⟩
  | 76 => ⟨S12800000, .i32⟩
  | 77 => ⟨S12800000, .i32⟩
  | 78 => ⟨S12800000, .i32⟩
  | 79 => ⟨S12800000, .i32⟩
  | 80 => ⟨S_, .i32⟩
  | 81 => ⟨S12800000, .i32⟩
  | 82 => ⟨S12800000, .i32⟩
  | 83 => ⟨S_, .i32⟩
  | 84 => ⟨S12800000, .i32⟩
  | 85 => ⟨S12800000, .i32⟩
  | 86 => ⟨S12800000, .i32⟩
  | 87 => ⟨S12800000, .i32⟩
  | 88 => ⟨S_, .i32⟩
  | 89 => ⟨S12800000, .i32⟩
  | 90 => ⟨S12800000, .i32⟩
  | 91 => ⟨S_, .i32⟩
  | 92 => ⟨S12800000, .i32⟩
  | 93 => ⟨S12800000, .i32⟩
  | 94 => ⟨S_, .i32⟩
  | 95 => ⟨S12800000, .i32⟩
  | 96 => ⟨S12800000, .i32⟩
  | 97 => ⟨S12800000, .i32⟩
  | 98 => ⟨S_, .i32⟩
  | 99 => ⟨S12800000, .i32⟩
  | 100 => ⟨S12800000, .i32⟩
  | 101 => ⟨S_, .i32⟩
  | 102 => ⟨S12800000, .i32⟩
  | 103 => ⟨S12800000, .i32⟩
  | 104 => ⟨S12800000, .i32⟩
  | 105 => ⟨S12800000, .i32⟩
  | 106 => ⟨S12800000, .i32⟩
  | 107 => ⟨S_, .i32⟩
  | 108 => ⟨S12800000, .i32⟩
  | 109 => ⟨S12800000, .i32⟩
  | 110 => ⟨S_, .i32⟩
  | 111 => ⟨S12800000, .i32⟩
  | 112 => ⟨S12800000, .i32⟩
  | 113 => ⟨S12800000, .i32⟩
  | 114 => ⟨S12800000, .i32⟩
  | 115 => ⟨S12800000, .i32⟩
  | 116 => ⟨S_, .i32⟩
  | 117 => ⟨S12800000, .i32⟩
  | 118 => ⟨S12800000, .i32⟩
  | 119 => ⟨S_, .i32⟩
  | 120 => ⟨S12800000, .i32⟩
  | 121 => ⟨S12800000, .i32⟩
  | 122 => ⟨S12800000, .i32⟩
  | 123 => ⟨S12800000, .i32⟩
  | 124 => ⟨S12800000, .i32⟩
  | 125 => ⟨S_, .i32⟩
  | 126 => ⟨S12800000, .i32⟩
  | 127 => ⟨S12800000, .i32⟩
  | _ => ⟨S128x100000, .f32⟩

abbrev hbmTy0_1 (i : Nat) : BufTy := match i % 128 with
  | 0 => ⟨S_, .i32⟩
  | 1 => ⟨S12800000, .i32⟩
  | 2 => ⟨S12800000, .i32⟩
  | 3 => ⟨S12800000, .i32⟩
  | 4 => ⟨S12800000, .i32⟩
  | 5 => ⟨S_, .i32⟩
  | 6 => ⟨S12800000, .i32⟩
  | 7 => ⟨S12800000, .i32⟩
  | 8 => ⟨S_, .i32⟩
  | 9 => ⟨S12800000, .i32⟩
  | 10 => ⟨S12800000, .i32⟩
  | 11 => ⟨S_, .i32⟩
  | 12 => ⟨S12800000, .i32⟩
  | 13 => ⟨S12800000, .i32⟩
  | 14 => ⟨S12800000, .i32⟩
  | 15 => ⟨S_, .i32⟩
  | 16 => ⟨S12800000, .i32⟩
  | 17 => ⟨S12800000, .i32⟩
  | 18 => ⟨S_, .i32⟩
  | 19 => ⟨S12800000, .i32⟩
  | 20 => ⟨S12800000, .i32⟩
  | 21 => ⟨S12800000, .i32⟩
  | 22 => ⟨S12800000, .i32⟩
  | 23 => ⟨S12800000, .i32⟩
  | 24 => ⟨S_, .i32⟩
  | 25 => ⟨S12800000, .i32⟩
  | 26 => ⟨S12800000, .i32⟩
  | 27 => ⟨S_, .i32⟩
  | 28 => ⟨S12800000, .i32⟩
  | 29 => ⟨S12800000, .i32⟩
  | 30 => ⟨S12800000, .i32⟩
  | 31 => ⟨S12800000, .i32⟩
  | 32 => ⟨S12800000, .i32⟩
  | 33 => ⟨S_, .i32⟩
  | 34 => ⟨S12800000, .i32⟩
  | 35 => ⟨S12800000, .i32⟩
  | 36 => ⟨S_, .i32⟩
  | 37 => ⟨S12800000, .i32⟩
  | 38 => ⟨S12800000, .i32⟩
  | 39 => ⟨S12800000, .i32⟩
  | 40 => ⟨S12800000, .i32⟩
  | 41 => ⟨S12800000, .i32⟩
  | 42 => ⟨S_, .i32⟩
  | 43 => ⟨S12800000, .i32⟩
  | 44 => ⟨S12800000, .i32⟩
  | 45 => ⟨S_, .i32⟩
  | 46 => ⟨S12800000, .i32⟩
  | 47 => ⟨S12800000, .i32⟩
  | 48 => ⟨S12800000, .i32⟩
  | 49 => ⟨S12800000, .i32⟩
  | 50 => ⟨S_, .i32⟩
  | 51 => ⟨S12800000, .i32⟩
  | 52 => ⟨S12800000, .i32⟩
  | 53 => ⟨S_, .i32⟩
  | 54 => ⟨S12800000, .i32⟩
  | 55 => ⟨S12800000, .i32⟩
  | 56 => ⟨S_, .i32⟩
  | 57 => ⟨S12800000, .i32⟩
  | 58 => ⟨S12800000, .i32⟩
  | 59 => ⟨S12800000, .i32⟩
  | 60 => ⟨S_, .i32⟩
  | 61 => ⟨S12800000, .i32⟩
  | 62 => ⟨S12800000, .i32⟩
  | 63 => ⟨S_, .i32⟩
  | 64 => ⟨S12800000, .i32⟩
  | 65 => ⟨S12800000, .i32⟩
  | 66 => ⟨S12800000, .i32⟩
  | 67 => ⟨S12800000, .i32⟩
  | 68 => ⟨S12800000, .i32⟩
  | 69 => ⟨S_, .i32⟩
  | 70 => ⟨S12800000, .i32⟩
  | 71 => ⟨S12800000, .i32⟩
  | 72 => ⟨S_, .i32⟩
  | 73 => ⟨S12800000, .i32⟩
  | 74 => ⟨S12800000, .i32⟩
  | 75 => ⟨S12800000, .i32⟩
  | 76 => ⟨S12800000, .i32⟩
  | 77 => ⟨S12800000, .i32⟩
  | 78 => ⟨S_, .i32⟩
  | 79 => ⟨S12800000, .i32⟩
  | 80 => ⟨S12800000, .i32⟩
  | 81 => ⟨S_, .i32⟩
  | 82 => ⟨S12800000, .i32⟩
  | 83 => ⟨S12800000, .i32⟩
  | 84 => ⟨S12800000, .i32⟩
  | 85 => ⟨S12800000, .i32⟩
  | 86 => ⟨S12800000, .i32⟩
  | 87 => ⟨S_, .i32⟩
  | 88 => ⟨S12800000, .i32⟩
  | 89 => ⟨S12800000, .i32⟩
  | 90 => ⟨S_, .i32⟩
  | 91 => ⟨S12800000, .i32⟩
  | 92 => ⟨S12800000, .i32⟩
  | 93 => ⟨S12800000, .i32⟩
  | 94 => ⟨S12800000, .i32⟩
  | 95 => ⟨S_, .i32⟩
  | 96 => ⟨S12800000, .i32⟩
  | 97 => ⟨S12800000, .i32⟩
  | 98 => ⟨S_, .i32⟩
  | 99 => ⟨S12800000, .i32⟩
  | 100 => ⟨S12800000, .i32⟩
  | 101 => ⟨S_, .i32⟩
  | 102 => ⟨S12800000, .i32⟩
  | 103 => ⟨S12800000, .i32⟩
  | 104 => ⟨S12800000, .i32⟩
  | 105 => ⟨S_, .i32⟩
  | 106 => ⟨S12800000, .i32⟩
  | 107 => ⟨S12800000, .i32⟩
  | 108 => ⟨S_, .i32⟩
  | 109 => ⟨S12800000, .i32⟩
  | 110 => ⟨S12800000, .i32⟩
  | 111 => ⟨S12800000, .f32⟩
  | 112 => ⟨S_, .f32⟩
  | 113 => ⟨S12800000, .f32⟩
  | 114 => ⟨S12800000, .f32⟩
  | 115 => ⟨S_, .f32⟩
  | 116 => ⟨S12800000, .f32⟩
  | 117 => ⟨S12800000, .f32⟩
  | 118 => ⟨S_, .f32⟩
  | 119 => ⟨S12800000, .f32⟩
  | 120 => ⟨S12800000, .f32⟩
  | 121 => ⟨S12800000, .f32⟩
  | 122 => ⟨S12800000, .f32⟩
  | 123 => ⟨S_, .f32⟩
  | 124 => ⟨S12800000, .f32⟩
  | 125 => ⟨S12800000, .f32⟩
  | 126 => ⟨S12800000, .f32⟩
  | 127 => ⟨S12800000, .f32⟩
  | _ => ⟨S128x100000, .f32⟩

abbrev hbmTy0_2 (i : Nat) : BufTy := match i % 128 with
  | 0 => ⟨S128x100000, .f32⟩
  | 1 => ⟨S128x100000, .f32⟩
  | 2 => ⟨S128x100000x1, .f32⟩
  | 3 => ⟨S29, .i32⟩
  | 4 => ⟨S_, .i32⟩
  | 5 => ⟨S29, .i32⟩
  | 6 => ⟨S29, .i32⟩
  | 7 => ⟨S29, .f32⟩
  | 8 => ⟨S_, .f32⟩
  | 9 => ⟨S29, .f32⟩
  | 10 => ⟨S29, .f32⟩
  | 11 => ⟨S1x1x29, .f32⟩
  | 12 => ⟨S128x100000x29, .f32⟩
  | 13 => ⟨S128x100000x29, .f32⟩
  | 14 => ⟨S128x100000x29, .i1⟩
  | 15 => ⟨S128x100000x29, .i32⟩
  | 16 => ⟨S_, .i32⟩
  | 17 => ⟨S128x100000, .i32⟩
  | 18 => ⟨S_, .i32⟩
  | 19 => ⟨S128x100000, .i32⟩
  | 20 => ⟨S128x100000, .i32⟩
  | 21 => ⟨S128x100000, .f32⟩
  | 22 => ⟨S_, .f32⟩
  | 23 => ⟨S128x100000, .f32⟩
  | 24 => ⟨S128x100000, .f32⟩
  | 25 => ⟨S128x100000, .f32⟩
  | 26 => ⟨S128x100000, .f32⟩
  | 27 => ⟨S128x100000, .i32⟩
  | 28 => ⟨S_, .f32⟩
  | 29 => ⟨S128x100000, .f32⟩
  | 30 => ⟨S128x100000, .i1⟩
  | 31 => ⟨S_, .i32⟩
  | 32 => ⟨S_, .i32⟩
  | 33 => ⟨S128x100000, .i32⟩
  | 34 => ⟨S128x100000, .i32⟩
  | 35 => ⟨S128x100000, .i32⟩
  | 36 => ⟨S_, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S128x50048, .i32⟩
  | 44 => ⟨S128x49952, .i32⟩
  | 45 => ⟨S_, .i32⟩
  | 46 => ⟨S128x96, .i32⟩
  | 47 => ⟨S128x50048, .i32⟩
  | 48 => ⟨S_, .i32⟩
  | 49 => ⟨S128x50048, .i32⟩
  | 50 => ⟨S128x50048, .i32⟩
  | 51 => ⟨S128x50048, .i32⟩
  | 52 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | .local _ .vmem, ⟨0, _⟩ => ⟨S16x100000, .f32⟩
  | .local _ .vmem, ⟨1, _⟩ => ⟨S16x100000, .f32⟩
  | .local _ .vmem, ⟨2, _⟩ => ⟨S16x50048, .i32⟩
  | .local _ .vmem, ⟨3, _⟩ => ⟨S16x50048, .i32⟩
  | .local _ .vmem, ⟨4, _⟩ => ⟨S16x100000, .f32⟩
  | .local _ .vmem, ⟨5, _⟩ => ⟨S16x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_5 : Ref sig .tc := ⟨.hbm, 26, rfl⟩
abbrev main_v19 : Ref sig .tc := ⟨.hbm, 27, rfl⟩
abbrev main_v20 : Ref sig .tc := ⟨.hbm, 28, rfl⟩
abbrev main_c_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_7 : Ref sig .tc := ⟨.hbm, 35, rfl⟩
abbrev main_v26 : Ref sig .tc := ⟨.hbm, 36, rfl⟩
abbrev main_v27 : Ref sig .tc := ⟨.hbm, 37, rfl⟩
abbrev main_c_8 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_9 : Ref sig .tc := ⟨.hbm, 43, rfl⟩
abbrev main_v32 : Ref sig .tc := ⟨.hbm, 44, rfl⟩
abbrev main_v33 : Ref sig .tc := ⟨.hbm, 45, rfl⟩
abbrev main_c_10 : Ref sig .tc := ⟨.hbm, 46, rfl⟩
abbrev main_v34 : Ref sig .tc := ⟨.hbm, 47, rfl⟩
abbrev main_v35 : Ref sig .tc := ⟨.hbm, 48, rfl⟩
abbrev main_c_11 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_12 : Ref sig .tc := ⟨.hbm, 53, rfl⟩
abbrev main_v39 : Ref sig .tc := ⟨.hbm, 54, rfl⟩
abbrev main_v40 : Ref sig .tc := ⟨.hbm, 55, rfl⟩
abbrev main_c_13 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_14 : Ref sig .tc := ⟨.hbm, 62, rfl⟩
abbrev main_v46 : Ref sig .tc := ⟨.hbm, 63, rfl⟩
abbrev main_v47 : Ref sig .tc := ⟨.hbm, 64, rfl⟩
abbrev main_c_15 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_16 : Ref sig .tc := ⟨.hbm, 71, rfl⟩
abbrev main_v53 : Ref sig .tc := ⟨.hbm, 72, rfl⟩
abbrev main_v54 : Ref sig .tc := ⟨.hbm, 73, rfl⟩
abbrev main_c_17 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_18 : Ref sig .tc := ⟨.hbm, 80, rfl⟩
abbrev main_v60 : Ref sig .tc := ⟨.hbm, 81, rfl⟩
abbrev main_v61 : Ref sig .tc := ⟨.hbm, 82, rfl⟩
abbrev main_c_19 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_20 : Ref sig .tc := ⟨.hbm, 88, rfl⟩
abbrev main_v66 : Ref sig .tc := ⟨.hbm, 89, rfl⟩
abbrev main_v67 : Ref sig .tc := ⟨.hbm, 90, rfl⟩
abbrev main_c_21 : Ref sig .tc := ⟨.hbm, 91, rfl⟩
abbrev main_v68 : Ref sig .tc := ⟨.hbm, 92, rfl⟩
abbrev main_v69 : Ref sig .tc := ⟨.hbm, 93, rfl⟩
abbrev main_c_22 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_23 : Ref sig .tc := ⟨.hbm, 98, rfl⟩
abbrev main_v73 : Ref sig .tc := ⟨.hbm, 99, rfl⟩
abbrev main_v74 : Ref sig .tc := ⟨.hbm, 100, rfl⟩
abbrev main_c_24 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_25 : Ref sig .tc := ⟨.hbm, 107, rfl⟩
abbrev main_v80 : Ref sig .tc := ⟨.hbm, 108, rfl⟩
abbrev main_v81 : Ref sig .tc := ⟨.hbm, 109, rfl⟩
abbrev main_c_26 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_27 : Ref sig .tc := ⟨.hbm, 116, rfl⟩
abbrev main_v87 : Ref sig .tc := ⟨.hbm, 117, rfl⟩
abbrev main_v88 : Ref sig .tc := ⟨.hbm, 118, rfl⟩
abbrev main_c_28 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_29 : Ref sig .tc := ⟨.hbm, 125, rfl⟩
abbrev main_v94 : Ref sig .tc := ⟨.hbm, 126, rfl⟩
abbrev main_v95 : Ref sig .tc := ⟨.hbm, 127, rfl⟩
abbrev main_c_30 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_31 : Ref sig .tc := ⟨.hbm, 133, rfl⟩
abbrev main_v100 : Ref sig .tc := ⟨.hbm, 134, rfl⟩
abbrev main_v101 : Ref sig .tc := ⟨.hbm, 135, rfl⟩
abbrev main_c_32 : Ref sig .tc := ⟨.hbm, 136, rfl⟩
abbrev main_v102 : Ref sig .tc := ⟨.hbm, 137, rfl⟩
abbrev main_v103 : Ref sig .tc := ⟨.hbm, 138, rfl⟩
abbrev main_c_33 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_34 : Ref sig .tc := ⟨.hbm, 143, rfl⟩
abbrev main_v107 : Ref sig .tc := ⟨.hbm, 144, rfl⟩
abbrev main_v108 : Ref sig .tc := ⟨.hbm, 145, rfl⟩
abbrev main_c_35 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_36 : Ref sig .tc := ⟨.hbm, 152, rfl⟩
abbrev main_v114 : Ref sig .tc := ⟨.hbm, 153, rfl⟩
abbrev main_v115 : Ref sig .tc := ⟨.hbm, 154, rfl⟩
abbrev main_c_37 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_38 : Ref sig .tc := ⟨.hbm, 161, rfl⟩
abbrev main_v121 : Ref sig .tc := ⟨.hbm, 162, rfl⟩
abbrev main_v122 : Ref sig .tc := ⟨.hbm, 163, rfl⟩
abbrev main_c_39 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_c_40 : Ref sig .tc := ⟨.hbm, 170, rfl⟩
abbrev main_v128 : Ref sig .tc := ⟨.hbm, 171, rfl⟩
abbrev main_v129 : Ref sig .tc := ⟨.hbm, 172, rfl⟩
abbrev main_c_41 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_c_42 : Ref sig .tc := ⟨.hbm, 178, rfl⟩
abbrev main_v134 : Ref sig .tc := ⟨.hbm, 179, rfl⟩
abbrev main_v135 : Ref sig .tc := ⟨.hbm, 180, rfl⟩
abbrev main_c_43 : Ref sig .tc := ⟨.hbm, 181, rfl⟩
abbrev main_v136 : Ref sig .tc := ⟨.hbm, 182, rfl⟩
abbrev main_v137 : Ref sig .tc := ⟨.hbm, 183, rfl⟩
abbrev main_c_44 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_c_45 : Ref sig .tc := ⟨.hbm, 188, rfl⟩
abbrev main_v141 : Ref sig .tc := ⟨.hbm, 189, rfl⟩
abbrev main_v142 : Ref sig .tc := ⟨.hbm, 190, rfl⟩
abbrev main_c_46 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_c_47 : Ref sig .tc := ⟨.hbm, 197, rfl⟩
abbrev main_v148 : Ref sig .tc := ⟨.hbm, 198, rfl⟩
abbrev main_v149 : Ref sig .tc := ⟨.hbm, 199, rfl⟩
abbrev main_c_48 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_c_49 : Ref sig .tc := ⟨.hbm, 206, rfl⟩
abbrev main_v155 : Ref sig .tc := ⟨.hbm, 207, rfl⟩
abbrev main_v156 : Ref sig .tc := ⟨.hbm, 208, rfl⟩
abbrev main_c_50 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_c_51 : Ref sig .tc := ⟨.hbm, 215, rfl⟩
abbrev main_v162 : Ref sig .tc := ⟨.hbm, 216, rfl⟩
abbrev main_v163 : Ref sig .tc := ⟨.hbm, 217, rfl⟩
abbrev main_c_52 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_c_53 : Ref sig .tc := ⟨.hbm, 223, rfl⟩
abbrev main_v168 : Ref sig .tc := ⟨.hbm, 224, rfl⟩
abbrev main_v169 : Ref sig .tc := ⟨.hbm, 225, rfl⟩
abbrev main_c_54 : Ref sig .tc := ⟨.hbm, 226, rfl⟩
abbrev main_v170 : Ref sig .tc := ⟨.hbm, 227, rfl⟩
abbrev main_v171 : Ref sig .tc := ⟨.hbm, 228, rfl⟩
abbrev main_c_55 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_c_56 : Ref sig .tc := ⟨.hbm, 233, rfl⟩
abbrev main_v175 : Ref sig .tc := ⟨.hbm, 234, rfl⟩
abbrev main_v176 : Ref sig .tc := ⟨.hbm, 235, rfl⟩
abbrev main_c_57 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_cst : Ref sig .tc := ⟨.hbm, 240, rfl⟩
abbrev main_v180 : Ref sig .tc := ⟨.hbm, 241, rfl⟩
abbrev main_v181 : Ref sig .tc := ⟨.hbm, 242, rfl⟩
abbrev main_cst_58 : Ref sig .tc := ⟨.hbm, 243, rfl⟩
abbrev main_v182 : Ref sig .tc := ⟨.hbm, 244, rfl⟩
abbrev main_v183 : Ref sig .tc := ⟨.hbm, 245, rfl⟩
abbrev main_cst_59 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_cst_60 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_c_61 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_cst_62 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_c_63 : Ref sig .tc := ⟨.hbm, 272, rfl⟩
abbrev main_v206 : Ref sig .tc := ⟨.hbm, 273, rfl⟩
abbrev main_c_64 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_cst_65 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_cst_66 : Ref sig .tc := ⟨.hbm, 284, rfl⟩
abbrev main_v215 : Ref sig .tc := ⟨.hbm, 285, rfl⟩
abbrev main_v216 : Ref sig .tc := ⟨.hbm, 286, rfl⟩
abbrev main_c_67 : Ref sig .tc := ⟨.hbm, 287, rfl⟩
abbrev main_c_68 : Ref sig .tc := ⟨.hbm, 288, rfl⟩
abbrev main_call1_v0 : Ref sig .tc := ⟨.hbm, 289, rfl⟩
abbrev main_call1_v1 : Ref sig .tc := ⟨.hbm, 290, rfl⟩
abbrev main_v217 : Ref sig .tc := ⟨.hbm, 291, rfl⟩
abbrev main_c_69 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_c_70 : Ref sig .tc := ⟨.hbm, 301, rfl⟩
abbrev main_v226 : Ref sig .tc := ⟨.hbm, 302, rfl⟩
abbrev main_v227 : Ref sig .tc := ⟨.hbm, 303, rfl⟩
abbrev main_c_71 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x50048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩

abbrev nBuf : Space → Nat
  | .hbm => 338
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S128x100000, .f32⟩
  | 23 => ⟨S128x100000, .f32⟩
  | 24 => ⟨S_, .f32⟩
  | 25 => ⟨S128x100000, .f32⟩
  | 26 => ⟨S128x100000, .f32⟩
  | 27 => ⟨S128x100000, .f32⟩
  | 28 => ⟨S128x100000, .f32⟩
  | 29 => ⟨S128x100000, .f32⟩
  | 30 => ⟨S_, .f32⟩
  | 31 => ⟨S128x100000, .f32⟩
  | 32 => ⟨S128x100000, .f32⟩
  | 33 => ⟨S128x100000, .f32⟩
  | 34 => ⟨S_, .f32⟩
  | 35 => ⟨S_, .f32⟩
  | 36 => ⟨S_, .f32⟩
  | 37 => ⟨S128x100000, .f32⟩
  | 38 => ⟨S128x100000, .f32⟩
  | 39 => ⟨S128x100000, .f32⟩
  | 40 => ⟨S_, .f32⟩
  | 41 => ⟨S128x100000, .f32⟩
  | 42 => ⟨S128x100000, .f32⟩
  | 43 => ⟨S_, .f32⟩
  | 44 => ⟨S128x100000, .f32⟩
  | 45 => ⟨S128x100000, .f32⟩
  | 46 => ⟨S128x100000, .f32⟩
  | 47 => ⟨S128x100000, .f32⟩
  | 48 => ⟨S128x100000, .f32⟩
  | 49 => ⟨S_, .f32⟩
  | 50 => ⟨S128x100000, .f32⟩
  | 51 => ⟨S128x100000, .i1⟩
  | 52 => ⟨S_, .f32⟩
  | 53 => ⟨S128x100000, .f32⟩
  | 54 => ⟨S128x100000, .f32⟩
  | 55 => ⟨S_, .f32⟩
  | 56 => ⟨S128x100000, .f32⟩
  | 57 => ⟨S128x100000, .f32⟩
  | 58 => ⟨S128x100000, .f32⟩
  | 59 => ⟨S_, .f32⟩
  | 60 => ⟨S128x100000, .f32⟩
  | 61 => ⟨S128x100000, .i1⟩
  | 62 => ⟨S128x100000, .f32⟩
  | 63 => ⟨S128x100000, .f32⟩
  | 64 => ⟨S128x100000, .f32⟩
  | 65 => ⟨S_, .f32⟩
  | 66 => ⟨S128x100000, .f32⟩
  | 67 => ⟨S128x100000, .f32⟩
  | 68 => ⟨S_, .f32⟩
  | 69 => ⟨S128, .f32⟩
  | 70 => ⟨S_, .f32⟩
  | 71 => ⟨S128, .f32⟩
  | 72 => ⟨S128, .f32⟩
  | 73 => ⟨S128x1, .f32⟩
  | 74 => ⟨S128x100000, .f32⟩
  | 75 => ⟨S128x100000, .f32⟩
  | 76 => ⟨S128x100000, .f32⟩
  | 77 => ⟨S_, .f32⟩
  | 78 => ⟨S128, .f32⟩
  | 79 => ⟨S128x1, .f32⟩
  | 80 => ⟨S128x100000, .f32⟩
  | 81 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_cst_4 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_v15 : Ref sig .tc := ⟨.hbm, 284, rfl⟩
abbrev main_v16 : Ref sig .tc := ⟨.hbm, 285, rfl⟩
abbrev main_cst_5 : Ref sig .tc := ⟨.hbm, 286, rfl⟩
abbrev main_v17 : Ref sig .tc := ⟨.hbm, 287, rfl⟩
abbrev main_v18 : Ref sig .tc := ⟨.hbm, 288, rfl⟩
abbrev main_v19 : Ref sig .tc := ⟨.hbm, 289, rfl⟩
abbrev main_cst_6 : Ref sig .tc := ⟨.hbm, 290, rfl⟩
abbrev main_v20 : Ref sig .tc := ⟨.hbm, 291, rfl⟩
abbrev main_v21 : Ref sig .tc := ⟨.hbm, 292, rfl⟩
abbrev main_v22 : Ref sig .tc := ⟨.hbm, 293, rfl⟩
abbrev main_v23 : Ref sig .tc := ⟨.hbm, 294, rfl⟩
abbrev main_v24 : Ref sig .tc := ⟨.hbm, 295, rfl⟩
abbrev main_cst_7 : Ref sig .tc := ⟨.hbm, 296, rfl⟩
abbrev main_v25 : Ref sig .tc := ⟨.hbm, 297, rfl⟩
abbrev main_v26 : Ref sig .tc := ⟨.hbm, 298, rfl⟩
abbrev main_cst_8 : Ref sig .tc := ⟨.hbm, 299, rfl⟩
abbrev main_v27 : Ref sig .tc := ⟨.hbm, 300, rfl⟩
abbrev main_v28 : Ref sig .tc := ⟨.hbm, 301, rfl⟩
abbrev main_v29 : Ref sig .tc := ⟨.hbm, 302, rfl⟩
abbrev main_v30 : Ref sig .tc := ⟨.hbm, 303, rfl⟩
abbrev main_v31 : Ref sig .tc := ⟨.hbm, 304, rfl⟩
abbrev main_cst_9 : Ref sig .tc := ⟨.hbm, 305, rfl⟩
abbrev main_v32 : Ref sig .tc := ⟨.hbm, 306, rfl⟩
abbrev main_v33 : Ref sig .tc := ⟨.hbm, 307, rfl⟩
abbrev main_cst_10 : Ref sig .tc := ⟨.hbm, 308, rfl⟩
abbrev main_v34 : Ref sig .tc := ⟨.hbm, 309, rfl⟩
abbrev main_v35 : Ref sig .tc := ⟨.hbm, 310, rfl⟩
abbrev main_cst_11 : Ref sig .tc := ⟨.hbm, 311, rfl⟩
abbrev main_v36 : Ref sig .tc := ⟨.hbm, 312, rfl⟩
abbrev main_v37 : Ref sig .tc := ⟨.hbm, 313, rfl⟩
abbrev main_v38 : Ref sig .tc := ⟨.hbm, 314, rfl⟩
abbrev main_cst_12 : Ref sig .tc := ⟨.hbm, 315, rfl⟩
abbrev main_v39 : Ref sig .tc := ⟨.hbm, 316, rfl⟩
abbrev main_v40 : Ref sig .tc := ⟨.hbm, 317, rfl⟩
abbrev main_v41 : Ref sig .tc := ⟨.hbm, 318, rfl⟩
abbrev main_v42 : Ref sig .tc := ⟨.hbm, 319, rfl⟩
abbrev main_v43 : Ref sig .tc := ⟨.hbm, 320, rfl⟩
abbrev main_cst_13 : Ref sig .tc := ⟨.hbm, 321, rfl⟩
abbrev main_v44 : Ref sig .tc := ⟨.hbm, 322, rfl⟩
abbrev main_v45 : Ref sig .tc := ⟨.hbm, 323, rfl⟩
abbrev main_cst_14 : Ref sig .tc := ⟨.hbm, 324, rfl⟩
abbrev main_v46 : Ref sig .tc := ⟨.hbm, 325, rfl⟩
abbrev main_cst_15 : Ref sig .tc := ⟨.hbm, 326, rfl⟩
abbrev main_v47 : Ref sig .tc := ⟨.hbm, 327, rfl⟩
abbrev main_v48 : Ref sig .tc := ⟨.hbm, 328, rfl⟩
abbrev main_v49 : Ref sig .tc := ⟨.hbm, 329, rfl⟩
abbrev main_v50 : Ref sig .tc := ⟨.hbm, 330, rfl⟩
abbrev main_v51 : Ref sig .tc := ⟨.hbm, 331, rfl⟩
abbrev main_v52 : Ref sig .tc := ⟨.hbm, 332, rfl⟩
abbrev main_cst_16 : Ref sig .tc := ⟨.hbm, 333, rfl⟩
abbrev main_v53 : Ref sig .tc := ⟨.hbm, 334, rfl⟩
abbrev main_v54 : Ref sig .tc := ⟨.hbm, 335, rfl⟩
abbrev main_v55 : Ref sig .tc := ⟨.hbm, 336, rfl⟩
abbrev main_v56 : Ref sig .tc := ⟨.hbm, 337, rfl⟩

abbrev nD : Nat := 1
abbrev τ : Topo := Topo.v7x

variable {F : FTy → Type} [FloatOps F]
-- ==== Proof.Noise.lean ====
/-
  The noise that one 16-bit half of a table word stands for.

  A half `h < 65536` is a half-precision pattern: sign bit 15, exponent field bits 10 to 14, fraction bits 0 to 9. The
  kernel moves these fields to their single-precision places and reads the word as a float (`decoded`). That float is
  `(1 - 2 * sign) * (1 + fraction / 1024) * 2 ^ (exponent - 15)` (`real`).
-/
module

public import Idealize.ShloMosaic.PureOps.Ideal
public import Mathlib.Data.Nat.Bitwise
public import Mathlib.Tactic.Ring
public import Mathlib.Tactic.NormNum
public import Mathlib.Tactic.FieldSimp

@[expose] public section

noncomputable section

namespace Cert.Noise

open Idealize.ShloMosaic

/-- The single-precision word that the kernel makes of a half: the sign bit moved from bit 15 to bit 31, the other fifteen
    bits moved up by 13, the exponent rebased by 112. -/
def word (h : BitVec 32) : BitVec 32 :=
  IntOp.ori (IntOp.shli .vector (IntOp.andi h 32768#32) 16#32)
    (IntOp.addi (IntOp.shli .vector (IntOp.andi h 32767#32) 13#32) 939524096#32)

/-- The value of that word, at any float instance. -/
def decoded {F : FTy → Type} [FloatOps F] (h : BitVec 32) : F .f32 := FloatOps.ofBits .f32 (word h)

/-- The noise of a half as a real number, by its sign, exponent and fraction fields. -/
def real (h : BitVec 32) : ℝ :=
  (1 - 2 * ((h.toNat / 32768 : Nat) : ℝ)) * (1 + ((h.toNat % 1024 : Nat) : ℝ) / 1024)
    * (2 : ℝ) ^ (((h.toNat / 1024 % 32 : Nat) : ℤ) - 15)

/-- The word as a number: sign, rebased exponent and fraction at their places. -/
theorem word_toNat (h : BitVec 32) (hh : h.toNat < 65536) :
    (word h).toNat = 2 ^ 31 * (h.toNat / 32768) + (h.toNat % 32768 * 8192 + 939524096) := by
  have hs : (h &&& 32768#32).toNat = h.toNat / 32768 * 32768 := by
    have e : h.toNat &&& 2 ^ 15 = h.toNat / 2 ^ 15 % 2 * 2 ^ 15 := by
      rw [Nat.and_two_pow, Nat.toNat_testBit]
    rw [BitVec.toNat_and]
    show h.toNat &&& 2 ^ 15 = _
    rw [e]
    omega
  have hf : (h &&& 32767#32).toNat = h.toNat % 32768 := by
    rw [BitVec.toNat_and]
    exact Nat.and_two_pow_sub_one_eq_mod h.toNat 15
  have h1 : ((h &&& 32768#32) <<< (16#32)).toNat = 2 ^ 31 * (h.toNat / 32768) := by
    rw [BitVec.shiftLeft_eq', BitVec.toNat_shiftLeft, hs, Nat.shiftLeft_eq]
    norm_num
    omega
  have h2 : (((h &&& 32767#32) <<< (13#32)) + 939524096#32).toNat = h.toNat % 32768 * 8192 + 939524096 := by
    rw [BitVec.toNat_add, BitVec.shiftLeft_eq', BitVec.toNat_shiftLeft, hf, Nat.shiftLeft_eq]
    norm_num
    omega
  show (((h &&& 32768#32) <<< (16#32)) ||| (((h &&& 32767#32) <<< (13#32)) + 939524096#32)).toNat = _
  rw [BitVec.toNat_or, h1, h2]
  exact (Nat.two_pow_add_eq_or_of_lt (by omega) _).symm

/-- So the kernel's decode of a half is its noise. -/
theorem decoded_eq (h : BitVec 32) (hh : h.toNat < 65536) : decoded (F := Ideal) h = ((real h : ℝ) : EReal) := by
  have hw := word_toNat h hh
  have hx : ((word h).extractLsb' 23 8).toNat = h.toNat / 1024 % 32 + 112 := by
    rw [BitVec.extractLsb'_toNat, hw, Nat.shiftRight_eq_div_pow]
    norm_num
    omega
  have hfr : ((word h).extractLsb' 0 23).toNat = h.toNat % 1024 * 8192 := by
    rw [BitVec.extractLsb'_toNat, hw, Nat.shiftRight_eq_div_pow]
    norm_num
    omega
  have hn : ((word h).extractLsb' 31 1).toNat = h.toNat / 32768 := by
    rw [BitVec.extractLsb'_toNat, hw, Nat.shiftRight_eq_div_pow]
    norm_num
    omega
  have hsgn : (if ((word h).extractLsb' 31 1 == 1#1) = true then (-1 : ℝ) else 1) = 1 - 2 * ((h.toNat / 32768 : Nat) : ℝ) := by
    have h01 : h.toNat / 32768 = 0 ∨ h.toNat / 32768 = 1 := by omega
    rcases h01 with h0 | h1
    · have : (word h).extractLsb' 31 1 = 0#1 := BitVec.eq_of_toNat_eq (by rw [hn, h0]; rfl)
      rw [this, h0]; norm_num
    · have : (word h).extractLsb' 31 1 = 1#1 := BitVec.eq_of_toNat_eq (by rw [hn, h1]; rfl)
      rw [this, h1]; norm_num
  show Ideal.ieee 8 23 (word h) = _
  unfold Ideal.ieee
  simp only [hx, hfr]
  rw [if_neg (by norm_num; omega), if_neg (by omega)]
  congr 1
  show (if ((word h).extractLsb' 31 1 == 1#1) = true then (-1 : ℝ) else 1) * _ * _ = _
  rw [hsgn]
  unfold real
  have hp : (2 : ℝ) ^ ((((h.toNat / 1024 % 32 + 112 : Nat) : ℤ)) - (2 ^ (8 - 1) - 1) - ((23 : Nat) : ℤ))
      = (2 : ℝ) ^ (((h.toNat / 1024 % 32 : Nat) : ℤ) - 15) * (2 : ℝ) ^ (-23 : ℤ) := by
    rw [← zpow_add₀ (by norm_num)]
    congr 1
    push_cast
    ring
  rw [hp]
  push_cast
  norm_num
  ring

/-- A positive normal single-precision pattern with exponent field `e` and fraction field `f`. -/
theorem ofBits_normal (b : BitVec 32) (e f : Nat) (hs : b.extractLsb' 31 1 = 0#1) (he : (b.extractLsb' 23 8).toNat = e)
    (hf : (b.extractLsb' 0 23).toNat = f) (h0 : e ≠ 0) (h1 : e ≠ 255) :
    (FloatOps.ofBits .f32 b : Ideal .f32) = ((((8388608 + f : Nat) : ℝ) * (2 : ℝ) ^ ((e : ℤ) - 150) : ℝ) : EReal) := by
  show Ideal.ieee 8 23 b = _
  unfold Ideal.ieee
  simp only [he, hf]
  rw [if_neg (by norm_num; exact h1), if_neg h0]
  congr 1
  show (if (b.extractLsb' 31 1 == 1#1) = true then (-1 : ℝ) else 1) * _ * _ = _
  rw [hs, if_neg (by decide), one_mul]
  norm_num
  left
  ring

/-- The single-precision pattern of one. -/
theorem ofBits_one : (FloatOps.ofBits .f32 0x3F800000#32 : Ideal .f32) = ((1 : ℝ) : EReal) := by
  rw [ofBits_normal _ 127 0 (by decide) (by decide) (by decide) (by decide) (by decide)]
  congr 1; norm_num

/-- The single-precision pattern of two. -/
theorem ofBits_two : (FloatOps.ofBits .f32 0x40000000#32 : Ideal .f32) = ((2 : ℝ) : EReal) := by
  rw [ofBits_normal _ 128 0 (by decide) (by decide) (by decide) (by decide) (by decide)]
  congr 1; norm_num

/-- The index of the packed table that holds the noise of an index: same row, its column modulo 50048. -/
def tableIdx {n : Nat} (i : (⟨2, ![n, 100000]⟩ : Shape).Idx) : (⟨2, ![n, 50048]⟩ : Shape).Idx :=
  fun a => match a with
    | ⟨0, _⟩ => i 0
    | ⟨1, _⟩ => ⟨(i 1 : Nat) % 50048, Nat.mod_lt _ (by decide)⟩

/-- The table index is the one with the row and the column so reduced. -/
theorem tableIdx_of {n : Nat} (i : (⟨2, ![n, 100000]⟩ : Shape).Idx) (j : (⟨2, ![n, 50048]⟩ : Shape).Idx)
    (h0 : (j 0 : Nat) = (i 0 : Nat)) (h1 : (j 1 : Nat) = (i 1 : Nat) % 50048) : tableIdx i = j := by
  funext a
  match a with
  | ⟨0, _⟩ => exact Fin.ext h0.symm
  | ⟨1, _⟩ => exact Fin.ext h1.symm

/-- The 16-bit half that holds the noise of an index: the low half of its word in the first 50048 columns, else the high half. -/
def half {n : Nat} (g : (⟨2, ![n, 50048]⟩ : Shape).Idx → BitVec 32) (i : (⟨2, ![n, 100000]⟩ : Shape).Idx) : BitVec 32 :=
  if (i 1 : Nat) < 50048 then IntOp.andi (g (tableIdx i)) 65535#32 else IntOp.shrui .vector (g (tableIdx i)) 16#32

/-- The noisy logits: each logit plus the decode of its half. -/
def noisy {F : FTy → Type} [FloatOps F] {n : Nat} (x : (⟨2, ![n, 100000]⟩ : Shape).Idx → F .f32)
    (g : (⟨2, ![n, 50048]⟩ : Shape).Idx → BitVec 32) : (⟨2, ![n, 100000]⟩ : Shape).Idx → F .f32 := fun i =>
  FloatOps.addf (x i) (decoded (half g i))

end Cert.Noise

end
-- ==== Proof.Block.lean ====
/-
  What one grid point's block computes: the decoded noise added to the logits, tile by tile.
-/
module

public import proofs.«01_k».proof.Proof.Gen.KernelIdeal.Value
public import proofs.«01_k».proof.Proof.Noise
public import Idealize.ShloMosaic.Lib.Writes
public import Idealize.ShloMosaic.Lib.WholeRead
public import Idealize.ShloMosaic.Lib.Pipeline.Value

@[expose] public section

set_option maxRecDepth 16384

noncomputable section

namespace Cert.KernelIdeal.Block

open Cert.KernelIdeal Cert.KernelIdeal.Gen Cert.Noise Idealize.ShloMosaic Idealize.ShloMosaic.TcCoe Idealize.SL.Sem

variable {F : FTy → Type} [FloatOps F]

/-- In the first 50048 columns a logit plus the decode of the low half of the word in the same column is the noisy logit. -/
theorem noisy_low (x0 : Vec F S16x100000 .f32) (x1 : Vec F S16x50048 .i32) (i : S16x100000.Idx) (j : S16x50048.Idx)
    (h0 : (j 0 : Nat) = (i 0 : Nat)) (h1 : (j 1 : Nat) = (i 1 : Nat)) :
    FloatOps.addf (x0 i) (decoded (IntOp.andi (x1 j) 65535#32)) = noisy x0 x1 i := by
  have hj : (j 1 : Nat) < 50048 := (j 1).isLt
  unfold noisy half
  rw [if_pos (by omega), tableIdx_of i j h0 (by omega)]

/-- In the last 49952 columns a logit plus the decode of the high half of the word 50048 columns before is the noisy logit. -/
theorem noisy_high (x0 : Vec F S16x100000 .f32) (x1 : Vec F S16x50048 .i32) (i : S16x100000.Idx) (j : S16x50048.Idx)
    (h0 : (j 0 : Nat) = (i 0 : Nat)) (h1 : (j 1 : Nat) + 50048 = (i 1 : Nat)) :
    FloatOps.addf (x0 i) (decoded (IntOp.shrui .vector (x1 j) 16#32)) = noisy x0 x1 i := by
  have hj : (j 1 : Nat) < 50048 := (j 1).isLt
  unfold noisy half
  rw [if_neg (by omega), tableIdx_of i j h0 (by omega)]

section Tiles

variable (arg1 : Memref sig .tc .vmem S16x100000 .f32) (harg1 : arg1.IsWhole)
variable (arg2 : Memref sig .tc .vmem S16x50048 .i32) (harg2 : arg2.IsWhole)
variable (x0 : Vec F S16x100000 .f32) (x1 : Vec F S16x50048 .i32)

/-- A tile of `n` low columns from column `o`, as the block's loads give it. -/
theorem low_tile (o n : Nat) (h1 : ∀ a, (![0, o] : Fin 2 → Nat) a + (![16, n] : Fin 2 → Nat) a ≤ S16x100000.size a)
    (h2 : ∀ a, (![0, o] : Fin 2 → Nat) a + (![16, n] : Fin 2 → Nat) a ≤ S16x50048.size a)
    (hc : (⟨2, ![16, n]⟩ : Shape).ShapeCasts ⟨2, ![16, n]⟩) (x : (⟨2, ![16, n]⟩ : Shape).Idx) :
    FloatOps.addf (View.readAt (Elt F) arg1.view (Rect.unit (s := S16x100000) ![0, o] ![16, n] h1).toLoadRect (harg1.unread x0) x)
      (decoded (IntOp.andi (shapeCast ⟨2, ![16, n]⟩
        (View.readAt (Elt F) arg2.view (Rect.unit (s := S16x50048) ![0, o] ![16, n] h2).toLoadRect (harg2.unread x1)) hc x) 65535#32))
      = noisy x0 x1 ((Rect.unit (s := S16x100000) ![0, o] ![16, n] h1).emb x) := by
  refine (congrArg (fun w => FloatOps.addf _ (decoded (IntOp.andi w 65535#32))) (congrFun (shapeCast_self (s := ⟨2, ![16, n]⟩) _ hc) x)).trans ?_
  rw [Memref.IsWhole.readAt_unread, Memref.IsWhole.readAt_unread]
  exact noisy_low x0 x1 ((Rect.unit (s := S16x100000) ![0, o] ![16, n] h1).emb x)
    ((Rect.unit (s := S16x50048) ![0, o] ![16, n] h2).emb x) rfl rfl

/-- A tile of `n` high columns, 50048 columns to the right of the table's column `o`, from a table tile of `k` columns. -/
theorem high_tile (o o' n k : Nat) (ho : o + 50048 = o')
    (h1 : ∀ a, (![0, o'] : Fin 2 → Nat) a + (![16, n] : Fin 2 → Nat) a ≤ S16x100000.size a)
    (h2 : ∀ a, (![0, o] : Fin 2 → Nat) a + (![16, k] : Fin 2 → Nat) a ≤ S16x50048.size a)
    (hc : (⟨2, ![16, k]⟩ : Shape).ShapeCasts ⟨2, ![16, k]⟩)
    (x : (⟨2, ![16, n]⟩ : Shape).Idx) (y : (⟨2, ![16, k]⟩ : Shape).Idx) (hy0 : (y 0 : Nat) = (x 0 : Nat)) (hy1 : (y 1 : Nat) = (x 1 : Nat)) :
    FloatOps.addf (View.readAt (Elt F) arg1.view (Rect.unit (s := S16x100000) ![0, o'] ![16, n] h1).toLoadRect (harg1.unread x0) x)
      (decoded (IntOp.shrui .vector (shapeCast ⟨2, ![16, k]⟩
        (View.readAt (Elt F) arg2.view (Rect.unit (s := S16x50048) ![0, o] ![16, k] h2).toLoadRect (harg2.unread x1)) hc y) 16#32))
      = noisy x0 x1 ((Rect.unit (s := S16x100000) ![0, o'] ![16, n] h1).emb x) := by
  refine (congrArg (fun w => FloatOps.addf _ (decoded (IntOp.shrui .vector w 16#32))) (congrFun (shapeCast_self (s := ⟨2, ![16, k]⟩) _ hc) y)).trans ?_
  rw [Memref.IsWhole.readAt_unread, Memref.IsWhole.readAt_unread]
  refine noisy_high x0 x1 ((Rect.unit (s := S16x100000) ![0, o'] ![16, n] h1).emb x)
    ((Rect.unit (s := S16x50048) ![0, o] ![16, k] h2).emb y) ?_ ?_
  · show 0 + 1 * (y 0 : Nat) = 0 + 1 * (x 0 : Nat)
    omega
  · show o + 1 * (y 1 : Nat) + 50048 = o' + 1 * (x 1 : Nat)
    omega

/-- Every one of the fifty tiles that the block stores holds the noisy logits of its columns. -/
theorem tiles (c : Dev nD) : ∀ p ∈ kernelRun0_A.sl.H2_50 c arg1 harg1 arg2 harg2 x0 x1,
    ∀ x : p.1.shape.Idx, p.2 x = noisy x0 x1 (p.1.emb x) := by
  unfold kernelRun0_A.sl.H2_50
  simp only [List.forall_mem_cons]
  refine ⟨fun x => high_tile arg1 harg1 arg2 harg2 x0 x1 49152 99200 800 896 rfl _ _ _ x (fun a => ⟨(![0, 0] : Fin 2 → Nat) a + (x a : Nat), _⟩) (Nat.zero_add _) (Nat.zero_add _),
    fun x => low_tile arg1 harg1 arg2 harg2 x0 x1 49152 896 _ _ _ x, ?_⟩
  repeat refine ⟨fun x => high_tile arg1 harg1 arg2 harg2 x0 x1 _ _ 2048 2048 rfl _ _ _ x x rfl rfl,
    fun x => low_tile arg1 harg1 arg2 harg2 x0 x1 _ 2048 _ _ _ x, ?_⟩
  exact fun p hp => absurd hp List.not_mem_nil

/-- The fifty tiles cover the block. -/
theorem tiles_cover (c : Dev nD) (y : S16x100000.Idx) :
    ∃ p ∈ kernelRun0_A.sl.H2_50 (F := F) c arg1 harg1 arg2 harg2 x0 x1, y ∈ p.1.set :=
  View.cover_of_tiledBy (kernelRun0_A.sl.H2_50 c arg1 harg1 arg2 harg2 x0 x1) ![16, 32] (by sl_kernel_rfl) y

/-- So the block reloaded after the fifty stores is the noisy logits. -/
theorem reload (c : Dev nD) (arg3 : Memref sig .tc .vmem S16x100000 .f32) :
    kernelRun0_A.sl.v901 c arg1 harg1 arg2 harg2 arg3 x0 x1 = noisy x0 x1 := by
  unfold kernelRun0_A.sl.v901 View.readCov
  funext x
  rw [View.readAt_apply, View.read_writes_apply_of_pieces arg3.view _ (noisy x0 x1) _ (tiles arg1 harg1 arg2 harg2 x0 x1 c) _
    (tiles_cover arg1 harg1 arg2 harg2 x0 x1 c _)]
  congr 1
  funext a
  match a with
  | ⟨0, _⟩ => exact Fin.ext (by show 0 + 1 * (x 0 : Nat) = (x 0 : Nat); omega)
  | ⟨1, _⟩ => exact Fin.ext (by show 0 + 1 * (x 1 : Nat) = (x 1 : Nat); omega)

end Tiles

end Cert.KernelIdeal.Block

end
-- ==== Proof.Softmax.lean ====
/-
  The softmax of one row of 100000 extended reals.
-/
module

public import Idealize.ShloMosaic.PureOps.Ideal
public import Idealize.ShloMosaic.PureOps.Ideal.Laws
public import Idealize.ShloMosaic.Lib.ValueIdx
public import proofs.«01_k».proof.Proof.Noise

@[expose] public section

noncomputable section

namespace Cert.Softmax

open Idealize.ShloMosaic Idealize.ShloMosaic.ValueIdx

/-- The largest entry of a row. -/
def rowMax (f : Fin 100000 → EReal) : EReal := (Finset.univ : Finset (Fin 100000)).fold max ⊥ f

/-- The softmax of a row: the exponentials of the entries less the largest, each over their sum. -/
def softmax (f : Fin 100000 → EReal) (k : Fin 100000) : EReal :=
  Ideal.div (Ideal.exp (f k - rowMax f)) (∑ q : Fin 100000, Ideal.exp (f q - rowMax f))

/-- The single-precision pattern of minus infinity. -/
theorem ofBits_bot : (FloatOps.ofBits .f32 0xFF800000#32 : Ideal .f32) = (⊥ : EReal) := by
  show Ideal.ieee 8 23 0xFF800000#32 = _
  simp [Ideal.ieee]

/-- The single-precision pattern of zero. -/
theorem ofBits_zero : (FloatOps.ofBits .f32 0x00000000#32 : Ideal .f32) = (0 : EReal) := by
  show Ideal.ieee 8 23 0x00000000#32 = _
  simp [Ideal.ieee]

/-- Dividing by one changes nothing. -/
theorem div_one_bits (x : Ideal .f32) : FloatOps.hostDivf x (FloatOps.ofBits .f32 0x3F800000#32) = x := by
  rw [Noise.ofBits_one]
  show Ideal.div x ((1 : ℝ) : EReal) = x
  rw [Ideal.div_coe one_ne_zero]
  norm_num

end Cert.Softmax

end
-- ==== Proof.Point.lean ====
/-
  What one grid point leaves in its output block: the row softmax of the block's noisy logits, read at an index.
-/
module

public import proofs.«01_k».proof.Proof.Block
public import proofs.«01_k».proof.Proof.Softmax
public import Idealize.ShloMosaic.Lib.ValueLayoutCasts

@[expose] public section

set_option maxRecDepth 16384

noncomputable section

namespace Cert.KernelIdeal.Point

open Cert.KernelIdeal Cert.KernelIdeal.Gen Cert.KernelIdeal.Block Cert.Noise Idealize.ShloMosaic Idealize.ShloMosaic.TcCoe Idealize.SL.Sem
open Idealize.ShloMosaic.ValueIdx

variable {F : FTy → Type} [FloatOps F]

/-- The rectangle of a store through the whole block. -/
abbrev wholeRect : Rect S16x100000 := Rect.unit (s := S16x100000) ![0, 0] ![16, 100000] inb_S16x100000_S16x100000_0_0

/-- An index of the whole rectangle is itself in the block. -/
theorem whole_emb (y : S16x100000.Idx) : wholeRect.emb y = y := by
  funext a
  match a with
  | ⟨0, _⟩ => exact Fin.ext (by show 0 + 1 * (y 0 : Nat) = (y 0 : Nat); omega)
  | ⟨1, _⟩ => exact Fin.ext (by show 0 + 1 * (y 1 : Nat) = (y 1 : Nat); omega)

/-- A view reads the payload of the newest piece, where that piece is the whole block. -/
theorem read_whole {κ : Kind} {sp : Space} (v : View sig κ sp S16x100000 .f32) (f : v.ty.Contents (Elt F))
    (w : Vec F S16x100000 .f32) (L : List (View.Piece (Elt F) S16x100000 .f32)) :
    v.read (Elt F) (v.writes (Elt F) f (⟨wholeRect, w⟩ :: L)) = w := by
  funext y
  have h := View.read_writes_cons_emb v f wholeRect w L y
  rw [whole_emb] at h
  exact h

/-- What a grid point leaves in its output block is the last payload at the noisy logits. -/
theorem out_eq (c : Dev nD) (i : grid0.Coords) (arg1 : Memref sig .tc .vmem S16x100000 .f32) (harg1 : arg1.IsWhole)
    (arg2 : Memref sig .tc .vmem S16x50048 .i32) (harg2 : arg2.IsWhole) (arg3 : Memref sig .tc .vmem S16x100000 .f32)
    (harg3 : arg3.IsWhole) (x0 : Vec F S16x100000 .f32) (x1 : Vec F S16x50048 .i32) :
    out0_A_2 c i arg1 harg1 arg2 harg2 arg3 harg3 x0 x1 = k0_pay1 (noisy x0 x1) := by
  unfold out0_A_2 kernelRun0_A
  dsimp only
  rw [reload]
  exact read_whole _ _ _ _

/-- A vector of sixteen row values, cast to a column and broadcast over the block, read at an index. -/
theorem spread_apply (u : FVec Ideal S16 .f32) (r : Fin 16) (k : Fin 100000) :
    broadcastTo S16x100000 (shapeCast S16x1 u shapeCasts_S16_S16x1) broadcasts_S16x1_S16x100000 (ix2 r k) = u (ix1 r) := by
  rw [broadcastTo_apply _ _ (ix2 r k) (ix2 r (0 : Fin 1)) (fun a => by
    match a with
    | ⟨0, _⟩ => rfl
    | ⟨1, _⟩ => rfl)]
  exact shapeCast_a_a1_apply u _ r 0

/-- The block's index over row `r` whose dropped coordinate is `k`. -/
theorem lift_row (r : Fin 16) (k : Fin 100000) : reduces_S16x100000_S16.lift (ix1 r) k = ix2 r k := by
  funext a
  match a with
  | ⟨0, _⟩ => rfl
  | ⟨1, _⟩ => rfl

/-- The maximum reduction of a block, at a row, is the row's largest entry. -/
theorem max_apply (v : FVec Ideal S16x100000 .f32) (hφ : FKind.Formats .f32)
    (hacc : (0xFF800000#32 : BitVec 32) = FKind.maximumf.neutral .f32 hφ) (r : Fin 16) :
    multiReduction .maximumf [1] S16 v 0xFF800000#32 reduces_S16x100000_S16 hφ hacc (ix1 r) = Softmax.rowMax (fun q => v (ix2 r q)) := by
  refine (Ideal.multiReduction_maximumf_single v _ reduces_S16x100000_S16 hφ hacc (ix1 r)).trans ?_
  rw [Softmax.ofBits_bot]
  unfold Softmax.rowMax
  exact Finset.fold_congr fun q _ => congrArg v (lift_row r q)

/-- The sum reduction of a block, at a row, is the sum over the row. -/
theorem sum_apply (v : FVec Ideal S16x100000 .f32) (hφ : FKind.Formats .f32)
    (hacc : (0x00000000#32 : BitVec 32) = FKind.add.neutral .f32 hφ) (r : Fin 16) :
    multiReduction .add [1] S16 v 0x00000000#32 reduces_S16x100000_S16 hφ hacc (ix1 r) = ∑ q : Fin 100000, (v (ix2 r q) : EReal) :=
  (Ideal.multiReduction_add_single v _ reduces_S16x100000_S16 hφ hacc (ix1 r)).trans
    (Finset.sum_congr rfl fun q _ => congrArg v (lift_row r q))

/-- The last payload at an index is the softmax of that row. -/
theorem pay_apply (v : FVec Ideal S16x100000 .f32) (r : Fin 16) (k : Fin 100000) :
    k0_pay1 (F := Ideal) v (ix2 r k) = Softmax.softmax (fun q => v (ix2 r q)) k := by
  unfold k0_pay1
  dsimp only
  rw [shapeCast_self]
  generalize hm : multiReduction (F := Ideal) .maximumf [1] S16 v 0xFF800000#32 reduces_S16x100000_S16 (.inl rfl) rfl = m
  have hmr : m (ix1 r) = Softmax.rowMax (fun q => v (ix2 r q)) := hm ▸ max_apply v _ _ r
  generalize he : exp (F := Ideal) (subf v (broadcastTo S16x100000 (shapeCast S16x1 m shapeCasts_S16_S16x1) broadcasts_S16x1_S16x100000)) = e
  have her : ∀ q : Fin 100000, e (ix2 r q) = Ideal.exp (v (ix2 r q) - Softmax.rowMax (fun q => v (ix2 r q))) := fun q => by
    rw [← he, ← hmr, ← spread_apply m r q]
    rfl
  generalize hs : multiReduction (F := Ideal) .add [1] S16 e 0x00000000#32 reduces_S16x100000_S16 (.inl rfl) rfl = t
  have htr : t (ix1 r) = ∑ q : Fin 100000, Ideal.exp (v (ix2 r q) - Softmax.rowMax (fun q => v (ix2 r q))) :=
    (hs ▸ sum_apply e _ _ r).trans (Finset.sum_congr rfl fun q _ => her q)
  show Ideal.div (e (ix2 r k)) (broadcastTo S16x100000 (shapeCast S16x1 t shapeCasts_S16_S16x1) broadcasts_S16x1_S16x100000 (ix2 r k)) = _
  rw [spread_apply, her k, htr]
  rfl

end Cert.KernelIdeal.Point

end
-- ==== Proof.Rounding.lean ====
/-
  Rounding a noise value to half precision.

  The kernel's table holds the rounded noise as a half-precision pattern (`halfWord`), which its body decodes; the reference
  rounds the noise to a multiple of the spacing of half-precision numbers around it (`rounded`). For noise below 2 ^ 16 in
  magnitude the decode of the pattern is the rounded noise.
-/
module

public import proofs.«01_k».proof.Proof.Noise
public import Mathlib.Analysis.SpecialFunctions.Log.Basic
public import Mathlib.Algebra.Order.Floor.Ring

@[expose] public section

noncomputable section

namespace Cert.Rounding

open Idealize.ShloMosaic

/-! ## Rounding to the nearest integer -/

/-- An integer below a number is below its nearest integer, … -/
theorem le_nearest {k : ℤ} {x : ℝ} (h : (k : ℝ) ≤ x) : k ≤ Ideal.roundHalfEven x := by
  have hf : k ≤ ⌊x⌋ := Int.le_floor.mpr h
  unfold Ideal.roundHalfEven
  dsimp only
  split_ifs <;> omega

/-- … and an integer above it is above. -/
theorem nearest_le {k : ℤ} {x : ℝ} (h : x ≤ (k : ℝ)) : Ideal.roundHalfEven x ≤ k := by
  by_cases hx : ⌊x⌋ < k
  · unfold Ideal.roundHalfEven
    dsimp only
    split_ifs <;> omega
  · have h1 : (k : ℝ) ≤ x := (Int.cast_le.mpr (not_lt.mp hx)).trans (Int.floor_le x)
    have e : x = (k : ℝ) := le_antisymm h h1
    subst e
    unfold Ideal.roundHalfEven
    simp

/-! ## The binade of a magnitude -/

/-- The exponent of a magnitude in half precision: that of the largest power of two not above it, from -14 up. -/
def expo (a : ℝ) : ℤ := ⌊Real.log (max a ((2 : ℝ) ^ (-14 : ℤ))) / Real.log 2⌋

/-- The same, counted from -14. -/
def binade (a : ℝ) : ℕ := (expo a + 14).toNat

/-- The magnitude in units of its spacing. -/
def units (a : ℝ) : ℝ := a * (2 : ℝ) ^ (24 - (binade a : ℤ))

/-- The nearest multiple of the spacing, in units of the spacing. -/
def count (a : ℝ) : ℕ := (Ideal.roundHalfEven (units a)).toNat

theorem clamp_pos (a : ℝ) : 0 < max a ((2 : ℝ) ^ (-14 : ℤ)) := lt_max_of_lt_right (by positivity)

/-- Powers of two not above the magnitude. -/
theorem pow_le_iff (a : ℝ) (k : ℤ) : (2 : ℝ) ^ k ≤ max a ((2 : ℝ) ^ (-14 : ℤ)) ↔ k ≤ expo a := by
  unfold expo
  rw [Int.le_floor, le_div_iff₀ (Real.log_pos (by norm_num)), ← Real.log_zpow,
    Real.log_le_log_iff (by positivity) (clamp_pos a)]

/-- Powers of two above the magnitude. -/
theorem lt_pow_iff (a : ℝ) (k : ℤ) : max a ((2 : ℝ) ^ (-14 : ℤ)) < (2 : ℝ) ^ k ↔ expo a < k := by
  rw [← not_le, pow_le_iff, not_le]

theorem le_expo (a : ℝ) : -14 ≤ expo a := (pow_le_iff a _).mp (le_max_right _ _)

theorem expo_eq (a : ℝ) : expo a = (binade a : ℤ) - 14 := by
  have := le_expo a
  unfold binade
  omega

theorem expo_lt {a : ℝ} (h : a < (2 : ℝ) ^ (16 : ℤ)) : expo a < 16 :=
  (lt_pow_iff a _).mp (max_lt h (zpow_lt_zpow_right₀ (by norm_num) (by norm_num)))

/-- Below 2 ^ 16 there are thirty binades. -/
theorem binade_le {a : ℝ} (h : a < (2 : ℝ) ^ (16 : ℤ)) : binade a ≤ 29 := by
  have := expo_lt h
  have := expo_eq a
  omega

/-- The binade counts the powers of two, from 2 ^ -13 up, that are not above the magnitude. -/
theorem pow_le_iff_lt_binade (a : ℝ) (j : ℕ) : (2 : ℝ) ^ ((j : ℤ) - 13) ≤ a ↔ j < binade a := by
  have h14 : ¬ (2 : ℝ) ^ ((j : ℤ) - 13) ≤ (2 : ℝ) ^ (-14 : ℤ) := by
    rw [zpow_le_zpow_iff_right₀ (by norm_num)]
    omega
  have h := pow_le_iff a ((j : ℤ) - 13)
  rw [le_max_iff, or_iff_left h14] at h
  rw [h, expo_eq]
  omega

/-- In its spacing, a magnitude is at most 2048, … -/
theorem units_le (a : ℝ) : units a ≤ 2048 := by
  have h : a < (2 : ℝ) ^ ((binade a : ℤ) - 13) :=
    lt_of_le_of_lt (le_max_left _ _) ((lt_pow_iff a _).mpr (by rw [expo_eq]; omega))
  unfold units
  refine (mul_le_mul_of_nonneg_right h.le (by positivity)).trans (le_of_eq ?_)
  rw [← zpow_add₀ (by norm_num)]
  have e : (binade a : ℤ) - 13 + (24 - (binade a : ℤ)) = 11 := by ring
  rw [e]
  norm_num

/-- … and at least 1024 past the first binade. -/
theorem le_units {a : ℝ} (h : binade a ≠ 0) : 1024 ≤ units a := by
  have h1 : (2 : ℝ) ^ ((binade a : ℤ) - 14) ≤ a := by
    have e : (binade a : ℤ) - 14 = ((binade a - 1 : ℕ) : ℤ) - 13 := by omega
    rw [e, pow_le_iff_lt_binade]
    omega
  unfold units
  refine le_trans (le_of_eq ?_) (mul_le_mul_of_nonneg_right h1 (by positivity))
  rw [← zpow_add₀ (by norm_num)]
  have e : (binade a : ℤ) - 14 + (24 - (binade a : ℤ)) = 10 := by ring
  rw [e]
  norm_num

theorem nearest_units_nonneg {a : ℝ} (h : 0 ≤ a) : 0 ≤ Ideal.roundHalfEven (units a) :=
  le_nearest (by unfold units; push_cast; positivity)

theorem count_cast {a : ℝ} (h : 0 ≤ a) : ((count a : ℕ) : ℤ) = Ideal.roundHalfEven (units a) :=
  Int.toNat_of_nonneg (nearest_units_nonneg h)

theorem count_le {a : ℝ} (h : 0 ≤ a) : count a ≤ 2048 := by
  have h1 : Ideal.roundHalfEven (units a) ≤ 2048 := nearest_le (by push_cast; exact units_le a)
  have := count_cast h
  omega

theorem le_count {a : ℝ} (h : 0 ≤ a) (hb : binade a ≠ 0) : 1024 ≤ count a := by
  have h1 : 1024 ≤ Ideal.roundHalfEven (units a) := le_nearest (by push_cast; exact le_units hb)
  have := count_cast h
  omega

/-! ## The decode of a pattern -/

/-- The pattern of sign `s`, binade `c` and count `n` as a number. -/
theorem real_pattern (w : BitVec 32) (s c n : ℕ) (hs : s = 0 ∨ s = 1) (hc : c ≤ 29) (hn : n ≤ 2048) (h : c = 0 ∨ 1024 ≤ n)
    (hw : w.toNat = s * 32768 + c * 1024 + n) :
    Noise.real w = (1 - 2 * (s : ℝ)) * (if (n : ℝ) * (2 : ℝ) ^ ((c : ℤ) - 24) < (2 : ℝ) ^ (-14 : ℤ)
      then ((n : ℝ) * (2 : ℝ) ^ ((c : ℤ) - 24) + (2 : ℝ) ^ (-14 : ℤ)) / 2 else (n : ℝ) * (2 : ℝ) ^ ((c : ℤ) - 24)) := by
  have hdiv : w.toNat / 32768 = s := by omega
  have hlow : ∀ k : ℤ, (2 : ℝ) ^ ((c : ℤ) + k) = (2 : ℝ) ^ (c : ℤ) * (2 : ℝ) ^ k := fun k => zpow_add₀ (by norm_num) _ _
  unfold Noise.real
  rw [hdiv, mul_assoc]
  congr 1
  by_cases h1 : n < 1024
  · have hc0 : c = 0 := by omega
    subst hc0
    have e1 : w.toNat / 1024 % 32 = 0 := by omega
    have e2 : w.toNat % 1024 = n := by omega
    have hn' : (n : ℝ) < 1024 := by exact_mod_cast h1
    rw [e1, e2, if_pos (by norm_num; linarith)]
    norm_num
    ring
  · have hge : (2 : ℝ) ^ (-14 : ℤ) ≤ (n : ℝ) * (2 : ℝ) ^ ((c : ℤ) - 24) := by
      have hn' : (1024 : ℝ) ≤ (n : ℝ) := by exact_mod_cast not_lt.mp h1
      have hp : (1 : ℝ) ≤ (2 : ℝ) ^ (c : ℤ) := one_le_zpow₀ (by norm_num) (by omega)
      rw [sub_eq_add_neg, hlow]
      have : (1024 : ℝ) * 1 ≤ (n : ℝ) * (2 : ℝ) ^ (c : ℤ) := mul_le_mul hn' hp (by norm_num) (by positivity)
      norm_num at this ⊢
      linarith
    rw [if_neg (not_lt.mpr hge)]
    by_cases h2 : n < 2048
    · have e1 : w.toNat / 1024 % 32 = c + 1 := by omega
      have e2 : w.toNat % 1024 = n - 1024 := by omega
      rw [e1, e2, Nat.cast_sub (not_lt.mp h1)]
      have e3 : ((c + 1 : ℕ) : ℤ) - 15 = (c : ℤ) + (-14) := by push_cast; ring
      rw [e3, sub_eq_add_neg (c : ℤ) 24, hlow, hlow]
      norm_num
      ring
    · have hn2 : n = 2048 := by omega
      subst hn2
      have e1 : w.toNat / 1024 % 32 = c + 2 := by omega
      have e2 : w.toNat % 1024 = 0 := by omega
      rw [e1, e2]
      have e3 : ((c + 2 : ℕ) : ℤ) - 15 = (c : ℤ) + (-13) := by push_cast; ring
      rw [e3, sub_eq_add_neg (c : ℤ) 24, hlow, hlow]
      norm_num
      ring

/-! ## The kernel's pattern -/

/-- The indicator that a magnitude is at least `2 ^ (j - 13)`, as the kernel's host code computes it. -/
def atLeast (a : Ideal .f32) (j : BitVec 32) : BitVec 32 :=
  (FloatOps.cmpf .oge a (FloatOps.hostPowf (FloatOps.ofBits .f32 0x40000000#32)
    (FloatOps.sitofp .f32 (IntOp.addi 4294967283#32 j)))).setWidth 32

/-- The kernel's pattern of a noise value, from the sum `C` of its indicators. -/
def halfWord (g : Ideal .f32) (C : BitVec 32) : BitVec 32 :=
  IntOp.addi
    (IntOp.addi (if FloatOps.cmpf .olt g (FloatOps.ofBits .f32 0x00000000#32) = 1#1 then 32768#32 else 0#32) (IntOp.shli .host C 10#32))
    (FloatOps.fptosi 32 (FloatOps.hostUnary .roundeven
      (FloatOps.mulf (FloatOps.hostAbsf g)
        (FloatOps.hostPowf (FloatOps.ofBits .f32 0x40000000#32) (FloatOps.sitofp .f32 (IntOp.subi 24#32 C))))))

/-- Two to an integral power. -/
theorem pow_two (k : ℤ) : (FloatOps.hostPowf (FloatOps.ofBits .f32 0x40000000#32) (((k : ℝ) : EReal) : Ideal .f32) : Ideal .f32)
    = (((2 : ℝ) ^ k : ℝ) : EReal) := by
  rw [Noise.ofBits_two]
  show Ideal.pow ((2 : ℝ) : EReal) ((k : ℝ) : EReal) = _
  rw [Ideal.pow_coe_coe, ← Real.rpow_intCast]
  rfl

/-- The magnitude of a real. -/
theorem abs_real (r : ℝ) : (FloatOps.hostAbsf ((r : EReal) : Ideal .f32) : Ideal .f32) = ((|r| : ℝ) : EReal) := by
  show max (r : EReal) (-(r : EReal)) = _
  rw [← EReal.coe_neg]
  rcases le_total 0 r with h | h
  · rw [abs_of_nonneg h, max_eq_left (EReal.coe_le_coe_iff.mpr (by linarith))]
  · rw [abs_of_nonpos h, max_eq_right (EReal.coe_le_coe_iff.mpr (by linarith))]

/-- The larger of two reals. -/
theorem max_real (x y : ℝ) : (FloatOps.maximumf ((x : EReal) : Ideal .f32) ((y : EReal) : Ideal .f32) : Ideal .f32) = ((max x y : ℝ) : EReal) := by
  show max (x : EReal) (y : EReal) = _
  rcases le_total x y with h | h
  · rw [max_eq_right h, max_eq_right (EReal.coe_le_coe_iff.mpr h)]
  · rw [max_eq_left h, max_eq_left (EReal.coe_le_coe_iff.mpr h)]

/-- The exponent that the indicator `j` compares with. -/
theorem toInt_shifted : ∀ j : Fin 29, (IntOp.addi 4294967283#32 (BitVec.ofNat 32 j.val)).toInt = (j.val : ℤ) - 13 := by
  decide +kernel

/-- The indicator counts towards the binade. -/
theorem atLeast_eq (r : ℝ) (j : Fin 29) :
    atLeast ((r : ℝ) : EReal) (BitVec.ofNat 32 j.val) = if j.val < binade r then 1#32 else 0#32 := by
  unfold atLeast
  have e : (FloatOps.sitofp .f32 (IntOp.addi 4294967283#32 (BitVec.ofNat 32 j.val)) : Ideal .f32)
      = ((((j.val : ℤ) - 13 : ℤ) : ℝ) : EReal) := by
    rw [← toInt_shifted j]
    rfl
  rw [e, pow_two]
  show (Ideal.cmp .oge _ _).setWidth 32 = _
  unfold Ideal.cmp
  dsimp only
  rw [decide_eq_decide.mpr (EReal.coe_le_coe_iff.trans (pow_le_iff_lt_binade r j.val))]
  by_cases h : j.val < binade r
  · rw [if_pos h, decide_eq_true h]; rfl
  · rw [if_neg h, decide_eq_false h]; rfl

instance : Std.Commutative (IntOp.addi (w := 32)) := ⟨BitVec.add_comm⟩
instance : Std.Associative (IntOp.addi (w := 32)) := ⟨BitVec.add_assoc⟩

/-- A sum of the first `c` of 29 ones. -/
theorem fold_ones : ∀ c : Fin 30, (Finset.univ : Finset (Fin 29)).fold IntOp.addi (0#32)
    (fun j => if j.val < c.val then 1#32 else 0#32) = BitVec.ofNat 32 c.val := by
  decide +kernel

/-- The sum of the indicators is the binade. -/
theorem fold_atLeast {a : ℝ} (h : a < (2 : ℝ) ^ (16 : ℤ)) :
    (Finset.univ : Finset (Fin 29)).fold IntOp.addi (0#32) (fun j => atLeast ((a : ℝ) : EReal) (BitVec.ofNat 32 j.val))
      = BitVec.ofNat 32 (binade a) := by
  have hc := binade_le h
  rw [← fold_ones ⟨binade a, by omega⟩]
  exact Finset.fold_congr fun j _ => atLeast_eq a j

/-- The exponent that scales a magnitude to its units. -/
theorem toInt_scale : ∀ c : Fin 30, (IntOp.subi 24#32 (BitVec.ofNat 32 c.val)).toInt = 24 - (c.val : ℤ) := by
  decide +kernel

/-- A comparison of reals. -/
theorem lt_iff (x y : ℝ) :
    (FloatOps.cmpf (F := Ideal) (φ := .f32) .olt ((x : ℝ) : EReal) ((y : ℝ) : EReal) = 1#1) ↔ x < y := by
  show BitVec.ofBool (decide ((x : EReal) < (y : EReal))) = 1#1 ↔ _
  by_cases h : (x : EReal) < (y : EReal)
  · rw [decide_eq_true h]
    exact iff_of_true rfl (EReal.coe_lt_coe_iff.mp h)
  · rw [decide_eq_false h]
    exact iff_of_false (by decide) (fun q => h (EReal.coe_lt_coe_iff.mpr q))

/-- A number's comparison with zero. -/
theorem neg_iff (r : ℝ) : (FloatOps.cmpf (F := Ideal) (φ := .f32) .olt (((r : ℝ) : EReal) : Ideal .f32) (FloatOps.ofBits .f32 0x00000000#32) = 1#1) ↔ r < 0 := by
  have z : (FloatOps.ofBits .f32 0x00000000#32 : Ideal .f32) = ((0 : ℝ) : EReal) := by
    show Ideal.ieee 8 23 0x00000000#32 = _
    simp [Ideal.ieee]
  rw [z]
  exact lt_iff r 0

/-- A count converts to the word it spells. -/
theorem fptosi_nat (n : ℕ) (h : n ≤ 2048) : (FloatOps.fptosi (F := Ideal) (φ := .f32) 32 ((((n : ℕ) : ℝ) : EReal) : Ideal .f32)) = BitVec.ofNat 32 n := by
  show BitVec.ofInt 32 (Ideal.toIntClamped _ _ _) = _
  rw [Ideal.toIntClamped_coe, if_pos (by positivity), Int.floor_natCast]
  have e : max (-((2 ^ (32 - 1) : ℕ) : ℤ)) (min (((2 ^ (32 - 1) : ℕ) : ℤ) - 1) (n : ℤ)) = (n : ℤ) := by
    norm_num
    omega
  rw [e]
  rfl

/-- The kernel's pattern as a number. -/
theorem halfWord_toNat {r : ℝ} (h : |r| < (2 : ℝ) ^ (16 : ℤ)) :
    (halfWord ((r : ℝ) : EReal) (BitVec.ofNat 32 (binade |r|))).toNat
      = (if r < 0 then 1 else 0) * 32768 + binade |r| * 1024 + count |r| := by
  have hc := binade_le h
  have hn := count_le (abs_nonneg r)
  have e : (FloatOps.sitofp .f32 (IntOp.subi 24#32 (BitVec.ofNat 32 (binade |r|))) : Ideal .f32)
      = (((24 - (binade |r| : ℤ) : ℤ) : ℝ) : EReal) := by
    rw [← toInt_scale ⟨binade |r|, by omega⟩]
    rfl
  have hu : (FloatOps.mulf (((|r| : ℝ) : EReal) : Ideal .f32) (((2 : ℝ) ^ (24 - (binade |r| : ℤ)) : ℝ) : EReal) : Ideal .f32)
      = ((units |r| : ℝ) : EReal) := (EReal.coe_mul _ _).symm
  have hr : (FloatOps.hostUnary .roundeven (((units |r| : ℝ) : EReal) : Ideal .f32) : Ideal .f32) = (((count |r| : ℕ) : ℝ) : EReal) := by
    show (((Ideal.roundHalfEven (units |r|) : ℤ) : ℝ) : EReal) = _
    rw [← count_cast (abs_nonneg r), Int.cast_natCast]
  unfold halfWord
  rw [abs_real, e, pow_two, hu, hr, fptosi_nat _ hn]
  have hs : ((if FloatOps.cmpf (F := Ideal) (φ := .f32) .olt (((r : ℝ) : EReal) : Ideal .f32) (FloatOps.ofBits .f32 0x00000000#32) = 1#1 then 32768#32 else 0#32)).toNat
      = (if r < 0 then 1 else 0) * 32768 := by
    by_cases h0 : r < 0
    · rw [if_pos ((neg_iff r).mpr h0), if_pos h0]; rfl
    · rw [if_neg (fun q => h0 ((neg_iff r).mp q)), if_neg h0]; rfl
  have hsh : (IntOp.shli .host (BitVec.ofNat 32 (binade |r|)) 10#32).toNat = binade |r| * 1024 := by
    show ((BitVec.ofNat 32 (binade |r|)) <<< (10#32)).toNat = _
    rw [BitVec.shiftLeft_eq', BitVec.toNat_shiftLeft, BitVec.toNat_ofNat, Nat.shiftLeft_eq]
    norm_num
    omega
  have hb : (if r < 0 then 1 else 0) ≤ 1 := by split_ifs <;> simp
  show ((_ + _) + BitVec.ofNat 32 (count |r|)).toNat = _
  rw [BitVec.toNat_add, BitVec.toNat_add, hs, hsh, BitVec.toNat_ofNat]
  omega

/-! ## The reference's rounding -/

/-- The spacing of half-precision numbers around a magnitude, as the reference computes it. -/
def spacing (a : Ideal .f32) : Ideal .f32 :=
  FloatOps.hostPowf (FloatOps.ofBits .f32 0x40000000#32)
    (FloatOps.subf
      (FloatOps.hostUnary .floor
        (FloatOps.hostDivf (FloatOps.hostUnary .log (FloatOps.maximumf a (FloatOps.ofBits .f32 0x38800000#32)))
          (FloatOps.hostUnary .log (FloatOps.ofBits .f32 0x40000000#32))))
      (FloatOps.ofBits .f32 0x41200000#32))

/-- The magnitude rounded to a multiple of the spacing. -/
def multiple (a : Ideal .f32) : Ideal .f32 :=
  FloatOps.mulf (FloatOps.hostUnary .roundeven (FloatOps.hostDivf a (spacing a))) (spacing a)

/-- Below 2 ^ -14, half the sum with 2 ^ -14. -/
def lifted (h : Ideal .f32) : Ideal .f32 :=
  if FloatOps.cmpf .olt h (FloatOps.ofBits .f32 0x38800000#32) = 1#1
  then FloatOps.hostDivf (FloatOps.addf h (FloatOps.ofBits .f32 0x38800000#32)) (FloatOps.ofBits .f32 0x40000000#32) else h

/-- The reference's rounded noise. -/
def rounded (g : Ideal .f32) : Ideal .f32 :=
  if FloatOps.cmpf .olt g (FloatOps.ofBits .f32 0x00000000#32) = 1#1
  then FloatOps.hostNegf (lifted (multiple (FloatOps.hostAbsf g))) else lifted (multiple (FloatOps.hostAbsf g))

/-- The single-precision pattern of 2 ^ -14. -/
theorem ofBits_tiny : (FloatOps.ofBits .f32 0x38800000#32 : Ideal .f32) = (((2 : ℝ) ^ (-14 : ℤ) : ℝ) : EReal) := by
  rw [Noise.ofBits_normal _ 113 0 (by decide) (by decide) (by decide) (by decide) (by decide)]
  congr 1; norm_num

/-- The single-precision pattern of ten. -/
theorem ofBits_ten : (FloatOps.ofBits .f32 0x41200000#32 : Ideal .f32) = ((10 : ℝ) : EReal) := by
  rw [Noise.ofBits_normal _ 130 2097152 (by decide) (by decide) (by decide) (by decide) (by decide)]
  congr 1; norm_num

/-- A logarithm of a positive real. -/
theorem log_real {x : ℝ} (h : 0 < x) : (FloatOps.hostUnary .log (((x : ℝ) : EReal) : Ideal .f32) : Ideal .f32) = ((Real.log x : ℝ) : EReal) := by
  show Ideal.log ((x : ℝ) : EReal) = _
  rw [Ideal.log_coe, if_neg (not_le.mpr h)]

/-- A quotient of reals. -/
theorem div_real (x : ℝ) {y : ℝ} (h : y ≠ 0) :
    (FloatOps.hostDivf (((x : ℝ) : EReal) : Ideal .f32) (((y : ℝ) : EReal) : Ideal .f32) : Ideal .f32) = ((x / y : ℝ) : EReal) := by
  show Ideal.div ((x : ℝ) : EReal) ((y : ℝ) : EReal) = _
  rw [Ideal.div_coe h, ← EReal.coe_mul, mul_one_div]

/-- The reference's spacing is 2 ^ (binade - 24). -/
theorem spacing_eq (a : ℝ) : spacing ((a : ℝ) : EReal) = (((2 : ℝ) ^ ((binade a : ℤ) - 24) : ℝ) : EReal) := by
  have hm : (FloatOps.maximumf (((a : ℝ) : EReal) : Ideal .f32) (((2 : ℝ) ^ (-14 : ℤ) : ℝ) : EReal) : Ideal .f32)
      = ((max a ((2 : ℝ) ^ (-14 : ℤ)) : ℝ) : EReal) := max_real _ _
  have hl : Real.log 2 ≠ 0 := (Real.log_pos (by norm_num)).ne'
  have hfl : (FloatOps.hostUnary .floor (((Real.log (max a ((2 : ℝ) ^ (-14 : ℤ))) / Real.log 2 : ℝ) : EReal) : Ideal .f32) : Ideal .f32)
      = (((expo a : ℤ) : ℝ) : EReal) := rfl
  have hsub : (FloatOps.subf (((((expo a : ℤ) : ℝ)) : EReal) : Ideal .f32) ((10 : ℝ) : EReal) : Ideal .f32)
      = ((((binade a : ℤ) - 24 : ℤ) : ℝ) : EReal) := by
    show ((((expo a : ℤ) : ℝ)) : EReal) - ((10 : ℝ) : EReal) = _
    rw [← EReal.coe_sub, expo_eq]
    congr 1
    push_cast
    ring
  unfold spacing
  rw [ofBits_tiny, hm, log_real (clamp_pos a), ofBits_ten, Noise.ofBits_two, log_real (by norm_num), div_real _ hl, hfl, hsub,
    ← Noise.ofBits_two, pow_two]

/-- The rounded magnitude is its count of spacings. -/
theorem multiple_eq {a : ℝ} (h : 0 ≤ a) :
    multiple ((a : ℝ) : EReal) = (((count a : ℝ) * (2 : ℝ) ^ ((binade a : ℤ) - 24) : ℝ) : EReal) := by
  have hu : a / (2 : ℝ) ^ ((binade a : ℤ) - 24) = units a := by
    unfold units
    rw [div_eq_mul_inv, ← zpow_neg]
    congr 2
    ring
  have hr : (FloatOps.hostUnary .roundeven (((units a : ℝ) : EReal) : Ideal .f32) : Ideal .f32) = (((count a : ℕ) : ℝ) : EReal) := by
    show (((Ideal.roundHalfEven (units a) : ℤ) : ℝ) : EReal) = _
    rw [← count_cast h, Int.cast_natCast]
  unfold multiple
  rw [spacing_eq, div_real _ (by positivity), hu, hr]
  exact (EReal.coe_mul _ _).symm

/-- The lift of a real. -/
theorem lifted_eq (x : ℝ) :
    lifted ((x : ℝ) : EReal) = ((if x < (2 : ℝ) ^ (-14 : ℤ) then (x + (2 : ℝ) ^ (-14 : ℤ)) / 2 else x : ℝ) : EReal) := by
  unfold lifted
  rw [ofBits_tiny, Noise.ofBits_two]
  have hc := lt_iff x ((2 : ℝ) ^ (-14 : ℤ))
  have ha : (FloatOps.addf (((x : ℝ) : EReal) : Ideal .f32) (((2 : ℝ) ^ (-14 : ℤ) : ℝ) : EReal) : Ideal .f32)
      = ((x + (2 : ℝ) ^ (-14 : ℤ) : ℝ) : EReal) := (EReal.coe_add _ _).symm
  rw [ha, div_real _ (by norm_num)]
  by_cases h : x < (2 : ℝ) ^ (-14 : ℤ)
  · rw [if_pos (hc.mpr h), if_pos h]
  · rw [if_neg (fun q => h (hc.mp q)), if_neg h]

/-- The kernel's decode of its pattern of a noise value is the reference's rounded noise. -/
theorem decoded_halfWord {r : ℝ} (h : |r| < (2 : ℝ) ^ (16 : ℤ)) :
    Noise.decoded (F := Ideal) (halfWord ((r : ℝ) : EReal) (BitVec.ofNat 32 (binade |r|))) = rounded ((r : ℝ) : EReal) := by
  have hn := count_le (abs_nonneg r)
  have hc := binade_le h
  have hw := halfWord_toNat h
  have hb : (if r < 0 then 1 else 0) ≤ 1 := by split_ifs <;> simp
  rw [Noise.decoded_eq _ (lt_of_eq_of_lt hw (by clear hw; omega)),
    real_pattern _ (if r < 0 then 1 else 0) (binade |r|) (count |r|) (by split_ifs <;> simp) hc hn
      (by by_cases h0 : binade |r| = 0
          · exact .inl h0
          · exact .inr (le_count (abs_nonneg r) h0)) hw]
  unfold rounded
  rw [abs_real, multiple_eq (abs_nonneg r), lifted_eq]
  by_cases h0 : r < 0
  · rw [if_pos ((neg_iff r).mpr h0), if_pos h0]
    show _ = -(_ : EReal)
    rw [← EReal.coe_neg]
    congr 1
    push_cast
    ring
  · rw [if_neg (fun q => h0 ((neg_iff r).mp q)), if_neg h0]
    congr 1
    push_cast
    ring

end Cert.Rounding

end
-- ==== Proof.Sample.lean ====
/-
  The noise that a random word stands for: a uniform deviate in [0, 1) from its upper 23 bits, and two logarithms of it.
-/
module

public import proofs.«01_k».proof.Proof.Rounding
public import proofs.«01_k».proof.Proof.Softmax

@[expose] public section

noncomputable section

namespace Cert.Sample

open Idealize.ShloMosaic Idealize.ShloMosaic.ValueIdx Cert.Rounding

/-- The single-precision word of a random word: the upper 23 bits as the fraction of a number in [1, 2). -/
def unitWord (b : BitVec 32) : BitVec 32 := IntOp.ori (IntOp.shrui .host b 9#32) 1065353216#32

/-- The uniform deviate of a random word. -/
def uniform (b : BitVec 32) : Ideal .f32 :=
  FloatOps.subf (FloatOps.ofBits .f32 (unitWord b)) (FloatOps.ofBits .f32 0x3F800000#32)

/-- Minus the logarithm of a number raised by 1e-10. -/
def minusLog (u : Ideal .f32) : Ideal .f32 :=
  FloatOps.hostNegf (FloatOps.hostUnary .log (FloatOps.addf u (FloatOps.ofBits .f32 0x2EDBE6FF#32)))

/-- The Gumbel noise of a uniform deviate. -/
def gumbel (u : Ideal .f32) : Ideal .f32 :=
  FloatOps.hostNegf (FloatOps.hostUnary .log (FloatOps.addf (minusLog u) (FloatOps.ofBits .f32 0x2EDBE6FF#32)))

/-- The noise of a random word. -/
def noise (b : BitVec 32) : Ideal .f32 := gumbel (uniform b)

/-- The upper 23 bits. -/
theorem upper_toNat (b : BitVec 32) : (IntOp.shrui .host b 9#32).toNat = b.toNat / 512 := by
  show (b >>> (9#32)).toNat = _
  rw [BitVec.ushiftRight_eq', BitVec.toNat_ushiftRight, Nat.shiftRight_eq_div_pow]
  rfl

/-- The single-precision word as a number. -/
theorem unitWord_toNat (b : BitVec 32) : (unitWord b).toNat = 127 * 2 ^ 23 + b.toNat / 512 := by
  have hb := b.isLt
  have e : (1065353216#32 ||| IntOp.shrui .host b 9#32).toNat = 2 ^ 23 * 127 + b.toNat / 512 := by
    rw [BitVec.toNat_or, upper_toNat]
    exact (Nat.two_pow_add_eq_or_of_lt (i := 23) (by omega) 127).symm
  show (IntOp.shrui .host b 9#32 ||| 1065353216#32).toNat = _
  rw [BitVec.or_comm, e, Nat.mul_comm]

/-- The uniform deviate is the upper 23 bits over 2 ^ 23. -/
theorem uniform_eq (b : BitVec 32) : uniform b = ((((b.toNat / 512 : ℕ) : ℝ) / 8388608 : ℝ) : EReal) := by
  have hb := b.isLt
  have hw := unitWord_toNat b
  unfold uniform
  rw [Noise.ofBits_normal (unitWord b) 127 (b.toNat / 512)
      (BitVec.eq_of_toNat_eq (by
        rw [BitVec.extractLsb'_toNat, hw, Nat.shiftRight_eq_div_pow]
        norm_num
        omega))
      (by rw [BitVec.extractLsb'_toNat, hw, Nat.shiftRight_eq_div_pow]
          norm_num
          omega)
      (by rw [BitVec.extractLsb'_toNat, hw, Nat.shiftRight_eq_div_pow]
          norm_num
          omega) (by decide) (by decide), Noise.ofBits_one]
  show (_ : EReal) - ((1 : ℝ) : EReal) = _
  rw [← EReal.coe_sub]
  congr 1
  push_cast
  norm_num
  ring

/-- The single-precision number nearest 1e-10. -/
def eps : ℝ := 14411519 * (2 : ℝ) ^ (-57 : ℤ)

theorem ofBits_eps : (FloatOps.ofBits .f32 0x2EDBE6FF#32 : Ideal .f32) = ((eps : ℝ) : EReal) := by
  rw [Noise.ofBits_normal _ 93 6022911 (by decide) (by decide) (by decide) (by decide) (by decide)]
  unfold eps
  norm_num

theorem eps_pos : 0 < eps := by unfold eps; positivity
theorem le_eps : (2 : ℝ) ^ (-34 : ℤ) ≤ eps := by unfold eps; norm_num
theorem eps_lt : eps < 1 / 8388608 := by unfold eps; norm_num

/-- Numbers not below `eps` have a logarithm not below -34. -/
theorem le_log {x : ℝ} (h : eps ≤ x) : -34 ≤ Real.log x := by
  have h1 : Real.log ((2 : ℝ) ^ (-34 : ℤ)) ≤ Real.log x := Real.log_le_log (by positivity) (le_eps.trans h)
  have h2 : Real.log 2 ≤ 2 - 1 := Real.log_le_sub_one_of_pos (by norm_num)
  rw [Real.log_zpow] at h1
  push_cast at h1
  linarith

/-- Minus the logarithm, at a real. -/
theorem minusLog_real {u : ℝ} (h : 0 < u + eps) : minusLog ((u : ℝ) : EReal) = ((-Real.log (u + eps) : ℝ) : EReal) := by
  unfold minusLog
  rw [ofBits_eps]
  have e : (FloatOps.addf (((u : ℝ) : EReal) : Ideal .f32) ((eps : ℝ) : EReal) : Ideal .f32) = ((u + eps : ℝ) : EReal) :=
    (EReal.coe_add _ _).symm
  rw [e, log_real h]
  exact (EReal.coe_neg _).symm

/-- The noise of a random word is a real number, of magnitude far below 2 ^ 16. -/
theorem noise_real (b : BitVec 32) : ∃ r : ℝ, noise b = ((r : ℝ) : EReal) ∧ |r| < (2 : ℝ) ^ (16 : ℤ) := by
  have hb := b.isLt
  have hn : ((b.toNat / 512 : ℕ) : ℝ) ≤ 8388607 := by
    have h : b.toNat / 512 ≤ 8388607 := by omega
    exact_mod_cast h
  have h0 : (0 : ℝ) ≤ ((b.toNat / 512 : ℕ) : ℝ) := Nat.cast_nonneg _
  generalize hx : ((b.toNat / 512 : ℕ) : ℝ) = x at hn h0
  have hp := eps_pos
  have hl := eps_lt
  have hlt : x / 8388608 + eps < 1 := by linarith
  have hge : eps ≤ x / 8388608 + eps := by linarith
  have hneg : Real.log (x / 8388608 + eps) < 0 := Real.log_neg (by linarith) hlt
  have hlow := le_log hge
  have hge2 : eps ≤ -Real.log (x / 8388608 + eps) + eps := by linarith
  have hlow2 := le_log hge2
  have hup := Real.log_le_sub_one_of_pos (lt_of_lt_of_le hp hge2)
  refine ⟨-Real.log (-Real.log (x / 8388608 + eps) + eps), ?_, ?_⟩
  · unfold noise gumbel
    rw [uniform_eq, hx, minusLog_real (by linarith)]
    exact minusLog_real (lt_of_lt_of_le hp hge2)
  · rw [abs_neg, abs_lt]
    norm_num
    constructor <;> linarith

/-- A uniform deviate is not negative, so that clamping it at zero changes nothing. -/
theorem clamp_uniform (b : BitVec 32) : FloatOps.maximumf (uniform b) (FloatOps.ofBits .f32 0x00000000#32) = uniform b := by
  have z : (FloatOps.ofBits .f32 0x00000000#32 : Ideal .f32) = ((0 : ℝ) : EReal) := by
    show Ideal.ieee 8 23 0x00000000#32 = _
    simp [Ideal.ieee]
  rw [uniform_eq, z, max_real, max_eq_left (by positivity)]

/-- Stretching a uniform deviate to the range from zero to one and clamping it there changes nothing. -/
theorem range_uniform (b : BitVec 32) :
    FloatOps.maximumf (FloatOps.ofBits .f32 0x00000000#32)
      (FloatOps.addf (FloatOps.mulf (uniform b)
        (FloatOps.subf (FloatOps.ofBits .f32 0x3F800000#32) (FloatOps.ofBits .f32 0x00000000#32)))
        (FloatOps.ofBits .f32 0x00000000#32)) = uniform b := by
  have e : (FloatOps.addf (FloatOps.mulf (uniform b)
      (FloatOps.subf (FloatOps.ofBits .f32 0x3F800000#32) (FloatOps.ofBits .f32 0x00000000#32)))
      (FloatOps.ofBits .f32 0x00000000#32) : Ideal .f32) = uniform b := by
    rw [Softmax.ofBits_zero, Noise.ofBits_one]
    show uniform b * (((1 : ℝ) : EReal) - 0) + 0 = uniform b
    rw [sub_zero, add_zero, EReal.coe_one, mul_one]
  rw [e]
  exact (max_comm _ _).trans (clamp_uniform b)

/-- The sum of the indicators of a noise value's magnitude. -/
def indicators (g : Ideal .f32) : BitVec 32 :=
  (Finset.univ : Finset (Fin 29)).fold IntOp.addi (0#32) (fun j => atLeast (FloatOps.hostAbsf g) (BitVec.ofNat 32 j.val))

/-- The pattern that the kernel's table holds for a random word. -/
def pattern (b : BitVec 32) : BitVec 32 := halfWord (noise b) (indicators (noise b))

/-- The decode of the pattern is the rounded noise. -/
theorem decoded_pattern (b : BitVec 32) : Noise.decoded (F := Ideal) (pattern b) = rounded (noise b) := by
  obtain ⟨r, hr, h⟩ := noise_real b
  unfold pattern indicators
  rw [hr, abs_real, fold_atLeast h]
  exact decoded_halfWord h

/-- The pattern fits in sixteen bits. -/
theorem pattern_lt (b : BitVec 32) : (pattern b).toNat < 65536 := by
  obtain ⟨r, hr, h⟩ := noise_real b
  have hn := count_le (abs_nonneg r)
  have hc := binade_le h
  have hb : (if r < 0 then 1 else 0) ≤ 1 := by split_ifs <;> simp
  unfold pattern indicators
  rw [hr, abs_real, fold_atLeast h, halfWord_toNat h]
  omega

/-- The noisy logits: each logit plus the rounded noise of its random word. -/
def noisyLogits (x : (⟨2, ![128, 100000]⟩ : Shape).Idx → EReal) (B : (⟨2, ![128, 100000]⟩ : Shape).Idx → BitVec 32) :
    (⟨2, ![128, 100000]⟩ : Shape).Idx → EReal := fun i =>
  FloatOps.addf (F := Ideal) (φ := .f32) (x i) (rounded (noise (B i)))

/-- Their row softmax: what the kernel and the reference both compute. -/
def result (x : (⟨2, ![128, 100000]⟩ : Shape).Idx → EReal) (B : (⟨2, ![128, 100000]⟩ : Shape).Idx → BitVec 32) :
    (⟨2, ![128, 100000]⟩ : Shape).Idx → EReal := fun i =>
  Softmax.softmax (fun q => noisyLogits x B (ix2 (i 0) q)) (i 1)

end Cert.Sample

end
-- ==== Proof.Threefry.lean ====
/-
  The random words: a counter generator (Threefry with two words and twenty rounds).

  A pair of words is moved through rounds and additions of key words. The moves are described on words (`Move`), and the
  operations that a program makes of them on arrays (`Instr`); `chain` says that running the operations moves every pair of
  entries so.
-/
module

public import Idealize.ShloMosaic.Lib.StableHlo.Run
public import Idealize.ShloMosaic.PureOps.Ideal

@[expose] public section

noncomputable section

namespace Cert.Threefry

open Idealize.ShloMosaic Idealize.ShloMosaic.TcCoe Idealize.ShloMosaic.StableHlo

/-! ## Words -/

/-- A move of a pair of words: a round that rotates the second word by `r` places, where `r'` is 32 less `r`, or the addition
    of a word to the first or to the second. -/
inductive Move where
  | round (r r' : BitVec 32)
  | left (k : BitVec 32)
  | right (k : BitVec 32)

/-- The pair after a move. -/
def Move.act : Move → BitVec 32 × BitVec 32 → BitVec 32 × BitVec 32
  | .round r r', p =>
    (IntOp.addi p.1 p.2, IntOp.xori (IntOp.addi p.1 p.2) (IntOp.ori (IntOp.shli .host p.2 r) (IntOp.shrui .host p.2 r')))
  | .left k, p => (IntOp.addi p.1 k, p.2)
  | .right k, p => (p.1, IntOp.addi p.2 k)

/-- The pair after a list of moves. -/
def acts : List Move → BitVec 32 × BitVec 32 → BitVec 32 × BitVec 32
  | [], p => p
  | m :: l, p => acts l (m.act p)

/-- Four rounds, then the additions: one word to the first, one and the number of the group to the second. -/
def group (a b c d : BitVec 32) (k k' n : BitVec 32) : List Move :=
  [.round a (32#32 - a), .round b (32#32 - b), .round c (32#32 - c), .round d (32#32 - d), .left k, .right k', .right n]

/-- The moves for the key 42, whose three key words are 0, 42 and 466689008. -/
def moves : List Move :=
  group 13#32 15#32 26#32 6#32 42#32 466689008#32 1#32 ++ (group 17#32 29#32 16#32 24#32 466689008#32 0#32 2#32
    ++ (group 13#32 15#32 26#32 6#32 0#32 42#32 3#32 ++ (group 17#32 29#32 16#32 24#32 42#32 466689008#32 4#32
      ++ group 13#32 15#32 26#32 6#32 466689008#32 0#32 5#32)))

/-- The random word of a counter. -/
def word (k : BitVec 32) : BitVec 32 :=
  IntOp.xori (acts moves (0#32, IntOp.addi k 42#32)).1 (acts moves (0#32, IntOp.addi k 42#32)).2

/-- The random words of the array: entry `(r, k)` takes counter `100000 r + k`. -/
def words : (⟨2, ![128, 100000]⟩ : Shape).Idx → BitVec 32 := fun i => word (BitVec.ofNat 32 ((i 0).val * 100000 + (i 1).val))

/-! ## Buffers -/

/-- The shape of a single word. -/
abbrev One : Shape := ⟨0, ![]⟩

variable {τ : Topo} {sig : RefSig} {F : FTy → Type} [FloatOps F] {S : Shape}

/-- The contents of a typed buffer. -/
def held {T : BufTy} (V : Valuation τ sig (Elt F)) (x : TRef sig T) : T.Contents (Elt F) := x.ofBuf (V x.ref)

/-- The number of a buffer in its space. -/
def pos {T : BufTy} (x : TRef sig T) : Nat := x.ref.idx.val

/-- Buffers with different numbers differ. -/
theorem ref_ne {T U : BufTy} {x : TRef sig T} {y : TRef sig U} (h : pos x ≠ pos y) : x.ref ≠ y.ref := fun e =>
  h (by unfold pos; rw [e])

/-- An operation without operands leaves its value … -/
theorem held_nullary {T : BufTy} (y : TRef sig T) (v : T.Contents (Elt F)) (V : Valuation τ sig (Elt F)) :
    held ((TRef.nullary y v : HloOp τ sig (Elt F)).result V) y = v := by
  obtain ⟨r, rfl, hd, hu⟩ := y
  exact nullary_result ..

/-- … and keeps the other buffers; … -/
theorem held_nullary_ne {T U : BufTy} (y : TRef sig T) (v : T.Contents (Elt F)) (V : Valuation τ sig (Elt F)) (w : TRef sig U)
    (h : pos w ≠ pos y) : held ((TRef.nullary y v : HloOp τ sig (Elt F)).result V) w = held V w := by
  unfold held
  rw [nullary_result_ne (h := ref_ne h)]

/-- … so do those with one operand … -/
theorem held_unary {T U : BufTy} (x : TRef sig T) (y : TRef sig U) (f : T.Contents (Elt F) → U.Contents (Elt F))
    (V : Valuation τ sig (Elt F)) : held ((TRef.unary x y f : HloOp τ sig (Elt F)).result V) y = f (held V x) := by
  obtain ⟨r, rfl, hd, hu⟩ := y
  exact unary_result ..

theorem held_unary_ne {T U W : BufTy} (x : TRef sig T) (y : TRef sig U) (f : T.Contents (Elt F) → U.Contents (Elt F))
    (V : Valuation τ sig (Elt F)) (w : TRef sig W) (h : pos w ≠ pos y) :
    held ((TRef.unary x y f : HloOp τ sig (Elt F)).result V) w = held V w := by
  unfold held
  rw [unary_result_ne (h := ref_ne h)]

/-- … and with two. -/
theorem held_binary {T U W : BufTy} (x : TRef sig T) (y : TRef sig U) (z : TRef sig W)
    (f : T.Contents (Elt F) → U.Contents (Elt F) → W.Contents (Elt F)) (V : Valuation τ sig (Elt F)) :
    held ((TRef.binary x y z f : HloOp τ sig (Elt F)).result V) z = f (held V x) (held V y) := by
  obtain ⟨r, rfl, hd, hu⟩ := z
  exact binary_result ..

theorem held_binary_ne {T U W X : BufTy} (x : TRef sig T) (y : TRef sig U) (z : TRef sig W)
    (f : T.Contents (Elt F) → U.Contents (Elt F) → W.Contents (Elt F)) (V : Valuation τ sig (Elt F)) (w : TRef sig X)
    (h : pos w ≠ pos z) : held ((TRef.binary x y z f : HloOp τ sig (Elt F)).result V) w = held V w := by
  unfold held
  rw [binary_result_ne (h := ref_ne h)]

/-! ## Operations -/

/-- A buffer of words, and one of a single word. -/
abbrev Words (sig : RefSig) (S : Shape) : Type := TRef sig ⟨S, .i32⟩

/-- What a program makes of a move, by the buffers that its operations leave: nine for a round; for an addition the word, where
    it is a new constant (`fresh`), the word broadcast, and the sum. -/
inductive Instr (sig : RefSig) (S : Shape) where
  | round (r r' : BitVec 32) (y : Words sig S) (c : Words sig One) (b s : Words sig S) (d : Words sig One) (e t o z : Words sig S)
  | left (fresh : Bool) (k : BitVec 32) (c : Words sig One) (b y : Words sig S)
  | right (fresh : Bool) (k : BitVec 32) (c : Words sig One) (b y : Words sig S)

namespace Instr

/-- Its move. -/
def move : Instr sig S → Move
  | round r r' .. => .round r r'
  | left _ k .. => .left k
  | right _ k .. => .right k

/-- The pair of buffers after it. -/
def next (x : Words sig S × Words sig S) : Instr sig S → Words sig S × Words sig S
  | round _ _ y _ _ _ _ _ _ _ z => (y, z)
  | left _ _ _ _ y => (y, x.2)
  | right _ _ _ _ y => (x.1, y)

/-- The addition of a word to a buffer. -/
def addOps (hb : One.BroadcastsInDim S ![]) (x : Words sig S) (fresh : Bool) (k : BitVec 32) (c : Words sig One) (b y : Words sig S) :
    List (HloOp τ sig (Elt F)) :=
  match fresh with
  | true => [TRef.nullary c (constantI One 32 k), TRef.unary c b (broadcastInDim S ![] hb), TRef.binary x b y addi]
  | false => [TRef.unary c b (broadcastInDim S ![] hb), TRef.binary x b y addi]

/-- Its operations. -/
def ops (hb : One.BroadcastsInDim S ![]) (x : Words sig S × Words sig S) : Instr sig S → List (HloOp τ sig (Elt F))
  | round r r' y c b s d e t o z =>
    [TRef.binary x.1 x.2 y addi, TRef.nullary c (constantI One 32 r), TRef.unary c b (broadcastInDim S ![] hb),
      TRef.binary x.2 b s Host.shli, TRef.nullary d (constantI One 32 r'), TRef.unary d e (broadcastInDim S ![] hb),
      TRef.binary x.2 e t Host.shrui, TRef.binary s t o ori, TRef.binary y o z xori]
  | left fresh k c b y => addOps hb x.1 fresh k c b y
  | right fresh k c b y => addOps hb x.2 fresh k c b y

/-- The word that it adds is there before, unless new. -/
def known (V : Valuation τ sig (Elt F)) : Instr sig S → Prop
  | round .. => True
  | left fresh k c _ _ => fresh = false → held V c = constantI One 32 k
  | right fresh k c _ _ => fresh = false → held V c = constantI One 32 k

/-- The buffers of an addition come after the first `n` and in order, except for a word that is there before. -/
def addOrdered (n : Nat) (fresh : Bool) (c : Words sig One) (b y : Words sig S) : Bool :=
  match fresh with
  | true => decide (n ≤ pos c) && decide (pos c < pos b) && decide (pos b < pos y)
  | false => decide (pos c < n) && decide (n ≤ pos b) && decide (pos b < pos y)

/-- The buffers of an instruction come so. -/
def ordered (n : Nat) : Instr sig S → Bool
  | round _ _ y c b s d e t o z =>
    decide (n ≤ pos y) && decide (pos y < pos c) && decide (pos c < pos b) && decide (pos b < pos s) && decide (pos s < pos d)
      && decide (pos d < pos e) && decide (pos e < pos t) && decide (pos t < pos o) && decide (pos o < pos z)
  | left fresh _ c b y => addOrdered n fresh c b y
  | right fresh _ c b y => addOrdered n fresh c b y

/-- The number after its last buffer. -/
def bound : Instr sig S → Nat
  | round _ _ _ _ _ _ _ _ _ _ z => pos z + 1
  | left _ _ _ _ y => pos y + 1
  | right _ _ _ _ y => pos y + 1

end Instr

/-- What an addition leaves: the sum, and the older buffers as they were. -/
theorem add_step (hb : One.BroadcastsInDim S ![]) (x : Words sig S) (fresh : Bool) (k : BitVec 32) (c : Words sig One)
    (b y : Words sig S) (V : Valuation τ sig (Elt F)) (n : Nat) (hx : pos x < n) (ho : Instr.addOrdered n fresh c b y = true)
    (hk : fresh = false → held V c = constantI One 32 k) :
    (∀ j : S.Idx, held (after (Instr.addOps hb x fresh k c b y) V) y j = IntOp.addi (held V x j) k)
      ∧ n ≤ pos y
      ∧ ∀ {T : BufTy} (w : TRef sig T), pos w < n → held (after (Instr.addOps hb x fresh k c b y) V) w = held V w := by
  cases fresh
  · simp only [Instr.addOrdered, Bool.and_eq_true, decide_eq_true_eq] at ho
    refine ⟨fun j => ?_, by omega, fun w hw => ?_⟩
    · simp (disch := omega) only [Instr.addOps, after_cons, after_nil, held_binary, held_unary, held_unary_ne]
      rw [hk rfl]
      rfl
    · simp (disch := omega) only [Instr.addOps, after_cons, after_nil, held_binary_ne, held_unary_ne]
  · simp only [Instr.addOrdered, Bool.and_eq_true, decide_eq_true_eq] at ho
    refine ⟨fun j => ?_, by omega, fun w hw => ?_⟩
    · simp (disch := omega) only [Instr.addOps, after_cons, after_nil, held_binary, held_unary, held_unary_ne, held_nullary,
        held_nullary_ne]
      rfl
    · simp (disch := omega) only [Instr.addOps, after_cons, after_nil, held_binary_ne, held_unary_ne, held_nullary_ne]

/-- What an instruction leaves: the moved pair, and the older buffers as they were. -/
theorem step (hb : One.BroadcastsInDim S ![]) (i : Instr sig S) (x : Words sig S × Words sig S) (V : Valuation τ sig (Elt F))
    (n : Nat) (hx : pos x.1 < n ∧ pos x.2 < n) (ho : i.ordered n = true) (hk : i.known V) :
    (∀ j : S.Idx, (held (after (i.ops hb x) V) (i.next x).1 j, held (after (i.ops hb x) V) (i.next x).2 j)
        = i.move.act (held V x.1 j, held V x.2 j))
      ∧ (pos (i.next x).1 < i.bound ∧ pos (i.next x).2 < i.bound) ∧ n ≤ i.bound
      ∧ ∀ {T : BufTy} (w : TRef sig T), pos w < n → held (after (i.ops hb x) V) w = held V w := by
  obtain ⟨h1, h2⟩ := hx
  cases i with
  | round r r' y c b s d e t o z =>
    simp only [Instr.ordered, Bool.and_eq_true, decide_eq_true_eq] at ho
    refine ⟨fun j => ?_, ⟨?_, ?_⟩, ?_, fun w hw => ?_⟩
    · refine Prod.ext ?_ ?_
      · simp (disch := omega) only [Instr.ops, Instr.next, after_cons, after_nil, held_binary, held_binary_ne, held_unary_ne,
          held_nullary_ne]
        rfl
      · simp (disch := omega) only [Instr.ops, Instr.next, after_cons, after_nil, held_binary, held_binary_ne, held_unary,
          held_unary_ne, held_nullary, held_nullary_ne]
        rfl
    · simp only [Instr.next, Instr.bound]; omega
    · simp only [Instr.next, Instr.bound]; omega
    · simp only [Instr.bound]; omega
    · simp (disch := omega) only [Instr.ops, after_cons, after_nil, held_binary_ne, held_unary_ne, held_nullary_ne]
  | left fresh k c b y =>
    obtain ⟨hv, hn, hkeep⟩ := add_step hb x.1 fresh k c b y V n h1 ho hk
    refine ⟨fun j => Prod.ext (hv j) (congrFun (hkeep x.2 h2) j), ⟨?_, ?_⟩, ?_, hkeep⟩ <;>
      simp only [Instr.next, Instr.bound] <;> omega
  | right fresh k c b y =>
    obtain ⟨hv, hn, hkeep⟩ := add_step hb x.2 fresh k c b y V n h2 ho hk
    refine ⟨fun j => Prod.ext (congrFun (hkeep x.1 h1) j) (hv j), ⟨?_, ?_⟩, ?_, hkeep⟩ <;>
      simp only [Instr.next, Instr.bound] <;> omega

/-- The operations of a list of instructions. -/
def chainOps (hb : One.BroadcastsInDim S ![]) : List (Instr sig S) → Words sig S × Words sig S → List (HloOp τ sig (Elt F))
  | [], _ => []
  | i :: l, x => i.ops hb x ++ chainOps hb l (i.next x)

/-- The pair of buffers after them. -/
def final : List (Instr sig S) → Words sig S × Words sig S → Words sig S × Words sig S
  | [], x => x
  | i :: l, x => final l (i.next x)

/-- The buffers of the list come in order. -/
def ordered : Nat → List (Instr sig S) → Bool
  | _, [] => true
  | n, i :: l => i.ordered n && ordered i.bound l

/-- The word of an addition comes before `n`, unless new. -/
def Instr.early (n : Nat) : Instr sig S → Bool
  | .round .. => true
  | .left fresh _ c _ _ => fresh || decide (pos c < n)
  | .right fresh _ c _ _ => fresh || decide (pos c < n)

/-- What keeps the early words keeps them known. -/
theorem known_of_keeps {n : Nat} {V V' : Valuation τ sig (Elt F)} {i : Instr sig S}
    (h : ∀ {T : BufTy} (w : TRef sig T), pos w < n → held V' w = held V w) (he : i.early n = true) (hk : i.known V) :
    i.known V' := by
  cases i with
  | round => trivial
  | left fresh k c b y =>
    intro hf
    subst hf
    exact (h c (by simpa [Instr.early] using he)).trans (hk rfl)
  | right fresh k c b y =>
    intro hf
    subst hf
    exact (h c (by simpa [Instr.early] using he)).trans (hk rfl)

/-- An instruction that takes no earlier word at all adds only new ones. -/
theorem known_of_early {i : Instr sig S} (h : i.early 0 = true) (V : Valuation τ sig (Elt F)) : i.known V := by
  cases i with
  | round => trivial
  | left fresh k c b y =>
    intro hf
    subst hf
    simp [Instr.early] at h
  | right fresh k c b y =>
    intro hf
    subst hf
    simp [Instr.early] at h

/-- Two lists of operations leave what the second leaves of what the first left. -/
theorem after_append (l l' : List (HloOp τ sig (Elt F))) (V : Valuation τ sig (Elt F)) : after (l ++ l') V = after l' (after l V) := by
  induction l generalizing V with
  | nil => rfl
  | cons op l ih => exact ih _

/-- The operations work on buffers of the program … -/
theorem addOps_sub (hb : One.BroadcastsInDim S ![]) (x : Words sig S) (fresh : Bool) (k : BitVec 32) (c : Words sig One)
    (b y : Words sig S) :
    (Instr.addOps hb x fresh k c b y : List (HloOp τ sig (Elt F))).Forall fun op => op.bufs ⊆ tcRefs τ sig := by
  cases fresh <;>
    simp only [Instr.addOps, List.Forall, TRef.nullary, TRef.unary, TRef.binary, nullary_bufs_sub, unary_bufs_sub,
      binary_bufs_sub, and_self]

theorem ops_sub (hb : One.BroadcastsInDim S ![]) (i : Instr sig S) (x : Words sig S × Words sig S) :
    (i.ops hb x : List (HloOp τ sig (Elt F))).Forall fun op => op.bufs ⊆ tcRefs τ sig := by
  cases i with
  | round =>
    simp only [Instr.ops, List.Forall, TRef.nullary, TRef.unary, TRef.binary, nullary_bufs_sub, unary_bufs_sub,
      binary_bufs_sub, and_self]
  | left => exact addOps_sub ..
  | right => exact addOps_sub ..

theorem chainOps_sub (hb : One.BroadcastsInDim S ![]) (l : List (Instr sig S)) (x : Words sig S × Words sig S) :
    (chainOps hb l x : List (HloOp τ sig (Elt F))).Forall fun op => op.bufs ⊆ tcRefs τ sig := by
  induction l generalizing x with
  | nil => trivial
  | cons i l ih => exact List.forall_append.2 ⟨ops_sub hb i x, ih _⟩

/-- … and make no new ones. -/
theorem chainOps_fresh (hb : One.BroadcastsInDim S ![]) (l : List (Instr sig S)) (x : Words sig S × Words sig S) :
    (chainOps hb l x : List (HloOp τ sig (Elt F))).Forall fun op => op.fresh = ∅ := by
  induction l generalizing x with
  | nil => trivial
  | cons i l ih =>
    refine List.forall_append.2 ⟨?_, ih _⟩
    rcases i with _ | ⟨_ | _⟩ | ⟨_ | _⟩ <;>
      simp only [Instr.ops, Instr.addOps, List.Forall] <;> repeat' constructor

/-- What a list of instructions leaves: the pair moved by all moves, and the older buffers as they were. -/
theorem chain (hb : One.BroadcastsInDim S ![]) (n₀ : Nat) (l : List (Instr sig S)) (x : Words sig S × Words sig S)
    (V : Valuation τ sig (Elt F)) (n : Nat) (hn : n₀ ≤ n) (hx : pos x.1 < n ∧ pos x.2 < n) (ho : ordered n l = true)
    (he : ∀ i ∈ l, i.early n₀ = true) (hk : ∀ i ∈ l, i.known V) :
    (∀ j : S.Idx, (held (after (chainOps hb l x) V) (final l x).1 j, held (after (chainOps hb l x) V) (final l x).2 j)
        = acts (l.map Instr.move) (held V x.1 j, held V x.2 j))
      ∧ ∀ {T : BufTy} (w : TRef sig T), pos w < n → held (after (chainOps hb l x) V) w = held V w := by
  induction l generalizing x V n with
  | nil => exact ⟨fun _ => rfl, fun _ _ => rfl⟩
  | cons i l ih =>
    simp only [ordered, Bool.and_eq_true] at ho
    obtain ⟨hv, hb', hle, hkeep⟩ := step hb i x V n hx ho.1 (hk i (List.mem_cons_self ..))
    obtain ⟨hv', hkeep'⟩ := ih (i.next x) (after (i.ops hb x) V) i.bound (hn.trans hle) hb' ho.2
      (fun a ha => he a (List.mem_cons_of_mem _ ha))
      (fun a ha => known_of_keeps (fun w hw => hkeep w (lt_of_lt_of_le hw hn)) (he a (List.mem_cons_of_mem _ ha))
        (hk a (List.mem_cons_of_mem _ ha)))
    refine ⟨fun j => ?_, fun w hw => ?_⟩
    · rw [chainOps, after_append]
      refine (hv' j).trans ?_
      rw [hv j]
      rfl
    · rw [chainOps, after_append]
      exact (hkeep' w (lt_of_lt_of_le hw hle)).trans (hkeep w hw)

end Cert.Threefry

end
-- ==== Proof.KernelWords.lean ====
/-
  The kernel's random words: its first operations count the entries and move each counter to its random word.
-/
module

public import proofs.«01_k».proof.Proof.Threefry
public import proofs.«01_k».proof.Proof.Gen.KernelIdeal.Frame

@[expose] public section

set_option maxRecDepth 16384

noncomputable section

namespace Cert.KernelIdeal.Words

open Cert.KernelIdeal Cert.KernelIdeal.Gen Cert.Threefry Idealize.ShloMosaic Idealize.ShloMosaic.TcCoe
open Idealize.ShloMosaic.StableHlo

variable {F : FTy → Type} [FloatOps F]

/-- The contents of a buffer of words. -/
abbrev Flat (F : FTy → Type) : Type := (⟨S12800000, .i32⟩ : BufTy).Contents (Elt F)

/-- The operations that make the counters. -/
abbrev counterOps : List (HloOp τ sig (Elt F)) :=
  [ nullary main_c (constantI S_ 32 0#32),
    unary main_c main_v0 (broadcastInDim S12800000 ![] bcast_S_S12800000 : (⟨S_, .i32⟩ : BufTy).Contents (Elt F) → Flat F),
    nullary main_v1 (iotaInDim S12800000 32 0),
    nullary main_c_0 (constantI S_ 32 42#32),
    unary main_c_0 main_v2 (broadcastInDim S12800000 ![] bcast_S_S12800000 : (⟨S_, .i32⟩ : BufTy).Contents (Elt F) → Flat F),
    binary main_v1 main_v2 main_v3 (addi : Flat F → Flat F → Flat F) ]

/-- The buffers that they leave the pairs in. -/
def start : Threefry.Words sig S12800000 × Threefry.Words sig S12800000 := (.of main_v0, .of main_v3)

/-- The instructions that move the pairs. -/
def instrs : List (Instr sig S12800000) :=
  [ .round 13#32 19#32 (.of main_v4) (.of main_c_1) (.of main_v5) (.of main_v6) (.of main_c_2) (.of main_v7) (.of main_v8)
      (.of main_v9) (.of main_v10),
    .round 15#32 17#32 (.of main_v11) (.of main_c_3) (.of main_v12) (.of main_v13) (.of main_c_4) (.of main_v14)
      (.of main_v15) (.of main_v16) (.of main_v17),
    .round 26#32 6#32 (.of main_v18) (.of main_c_5) (.of main_v19) (.of main_v20) (.of main_c_6) (.of main_v21)
      (.of main_v22) (.of main_v23) (.of main_v24),
    .round 6#32 26#32 (.of main_v25) (.of main_c_7) (.of main_v26) (.of main_v27) (.of main_c_8) (.of main_v28)
      (.of main_v29) (.of main_v30) (.of main_v31),
    .left true 42#32 (.of main_c_9) (.of main_v32) (.of main_v33),
    .right true 466689008#32 (.of main_c_10) (.of main_v34) (.of main_v35),
    .right true 1#32 (.of main_c_11) (.of main_v36) (.of main_v37),
    .round 17#32 15#32 (.of main_v38) (.of main_c_12) (.of main_v39) (.of main_v40) (.of main_c_13) (.of main_v41)
      (.of main_v42) (.of main_v43) (.of main_v44),
    .round 29#32 3#32 (.of main_v45) (.of main_c_14) (.of main_v46) (.of main_v47) (.of main_c_15) (.of main_v48)
      (.of main_v49) (.of main_v50) (.of main_v51),
    .round 16#32 16#32 (.of main_v52) (.of main_c_16) (.of main_v53) (.of main_v54) (.of main_c_17) (.of main_v55)
      (.of main_v56) (.of main_v57) (.of main_v58),
    .round 24#32 8#32 (.of main_v59) (.of main_c_18) (.of main_v60) (.of main_v61) (.of main_c_19) (.of main_v62)
      (.of main_v63) (.of main_v64) (.of main_v65),
    .left true 466689008#32 (.of main_c_20) (.of main_v66) (.of main_v67),
    .right true 0#32 (.of main_c_21) (.of main_v68) (.of main_v69),
    .right true 2#32 (.of main_c_22) (.of main_v70) (.of main_v71),
    .round 13#32 19#32 (.of main_v72) (.of main_c_23) (.of main_v73) (.of main_v74) (.of main_c_24) (.of main_v75)
      (.of main_v76) (.of main_v77) (.of main_v78),
    .round 15#32 17#32 (.of main_v79) (.of main_c_25) (.of main_v80) (.of main_v81) (.of main_c_26) (.of main_v82)
      (.of main_v83) (.of main_v84) (.of main_v85),
    .round 26#32 6#32 (.of main_v86) (.of main_c_27) (.of main_v87) (.of main_v88) (.of main_c_28) (.of main_v89)
      (.of main_v90) (.of main_v91) (.of main_v92),
    .round 6#32 26#32 (.of main_v93) (.of main_c_29) (.of main_v94) (.of main_v95) (.of main_c_30) (.of main_v96)
      (.of main_v97) (.of main_v98) (.of main_v99),
    .left true 0#32 (.of main_c_31) (.of main_v100) (.of main_v101),
    .right true 42#32 (.of main_c_32) (.of main_v102) (.of main_v103),
    .right true 3#32 (.of main_c_33) (.of main_v104) (.of main_v105),
    .round 17#32 15#32 (.of main_v106) (.of main_c_34) (.of main_v107) (.of main_v108) (.of main_c_35) (.of main_v109)
      (.of main_v110) (.of main_v111) (.of main_v112),
    .round 29#32 3#32 (.of main_v113) (.of main_c_36) (.of main_v114) (.of main_v115) (.of main_c_37) (.of main_v116)
      (.of main_v117) (.of main_v118) (.of main_v119),
    .round 16#32 16#32 (.of main_v120) (.of main_c_38) (.of main_v121) (.of main_v122) (.of main_c_39) (.of main_v123)
      (.of main_v124) (.of main_v125) (.of main_v126),
    .round 24#32 8#32 (.of main_v127) (.of main_c_40) (.of main_v128) (.of main_v129) (.of main_c_41) (.of main_v130)
      (.of main_v131) (.of main_v132) (.of main_v133),
    .left true 42#32 (.of main_c_42) (.of main_v134) (.of main_v135),
    .right true 466689008#32 (.of main_c_43) (.of main_v136) (.of main_v137),
    .right true 4#32 (.of main_c_44) (.of main_v138) (.of main_v139),
    .round 13#32 19#32 (.of main_v140) (.of main_c_45) (.of main_v141) (.of main_v142) (.of main_c_46) (.of main_v143)
      (.of main_v144) (.of main_v145) (.of main_v146),
    .round 15#32 17#32 (.of main_v147) (.of main_c_47) (.of main_v148) (.of main_v149) (.of main_c_48) (.of main_v150)
      (.of main_v151) (.of main_v152) (.of main_v153),
    .round 26#32 6#32 (.of main_v154) (.of main_c_49) (.of main_v155) (.of main_v156) (.of main_c_50) (.of main_v157)
      (.of main_v158) (.of main_v159) (.of main_v160),
    .round 6#32 26#32 (.of main_v161) (.of main_c_51) (.of main_v162) (.of main_v163) (.of main_c_52) (.of main_v164)
      (.of main_v165) (.of main_v166) (.of main_v167),
    .left true 466689008#32 (.of main_c_53) (.of main_v168) (.of main_v169),
    .right true 0#32 (.of main_c_54) (.of main_v170) (.of main_v171),
    .right true 5#32 (.of main_c_55) (.of main_v172) (.of main_v173) ]

/-- The moves are those of the generator. -/
theorem moves_eq : instrs.map Instr.move = moves := rfl

/-- The instructions' buffers come in order. -/
theorem instrs_ordered : ordered 7 instrs = true := by decide

/-- They take no earlier word. -/
theorem instrs_early : ∀ i ∈ instrs, i.early 0 = true := by decide

/-- The operations of the program that come after. -/
abbrev laterOps : List (HloOp τ sig (Elt F)) := hostOps0.drop 231

set_option maxHeartbeats 4000000 in
/-- The first operations of the program make the counters and move the pairs. -/
theorem hostOps0_eq : (hostOps0 : List (HloOp τ sig (Elt F)))
    = counterOps ++ (chainOps bcast_S_S12800000 instrs start ++ laterOps) := rfl

variable (V : Valuation τ sig (Elt F))

/-- The counters' first words are zero … -/
theorem counter_left : after counterOps V main_v0 = (broadcastInDim S12800000 ![] bcast_S_S12800000 (constantI S_ 32 0#32) : Flat F) := by
  simp only [counterOps]
  after_results_simp

/-- … and their second words the entry's number plus 42. -/
theorem counter_right : after counterOps V main_v3 = (addi (iotaInDim S12800000 32 0)
    (broadcastInDim S12800000 ![] bcast_S_S12800000 (constantI S_ 32 42#32)) : Flat F) := by
  simp only [counterOps]
  after_results_simp

/-- The flat array of random words. -/
def flatWords : IVec S12800000 32 := fun j => word (BitVec.ofNat 32 (j 0).val)

/-- The buffers of the moved pairs. -/
theorem final_eq : final instrs start = (.of main_v169, .of main_v173) := rfl

/-- The pairs' exclusive or, after the instructions, is the array of random words. -/
theorem words_eq : (xori (after (chainOps bcast_S_S12800000 instrs start) (after counterOps V) main_v169 : Flat F)
    (after (chainOps bcast_S_S12800000 instrs start) (after counterOps V) main_v173) : Flat F) = flatWords := by
  have hc := (chain bcast_S_S12800000 0 instrs start (after counterOps V) 7 (Nat.zero_le 7) (by decide) instrs_ordered
    instrs_early (fun i hi => known_of_early (instrs_early i hi) _)).1
  funext j
  have h := hc j
  rw [moves_eq, final_eq] at h
  have hl : held (after counterOps V) start.1 j = 0#32 := congrFun (counter_left V) j
  have hr : held (after counterOps V) start.2 j = IntOp.addi (BitVec.ofNat 32 (j 0).val) 42#32 := congrFun (counter_right V) j
  rw [hl, hr] at h
  have h1 := congrArg Prod.fst h
  have h2 := congrArg Prod.snd h
  exact congrArg₂ IntOp.xori h1 h2

end Cert.KernelIdeal.Words

end
-- ==== Proof.Table.lean ====
/-
  The noise table that the kernel builds of its random words: each of its words holds the patterns of two noise entries.
-/
module

public import proofs.«01_k».proof.Proof.Sample
public import proofs.«01_k».proof.Proof.KernelWords
public import Idealize.ShloMosaic.Lib.StableHlo.Run
public import Idealize.ShloMosaic.Lib.Pipeline.Value
public import Idealize.ShloMosaic.Lib.ValueLayoutCasts

@[expose] public section

set_option maxRecDepth 16384

noncomputable section

namespace Cert.KernelIdeal.Table

open Cert.KernelIdeal Cert.KernelIdeal.Gen Idealize.ShloMosaic Idealize.ShloMosaic.TcCoe Idealize.SL.Sem
open Idealize.ShloMosaic.ValueIdx

/-! ## The noise -/

/-- An integer constant over the flat array. -/
abbrev flatI (b : BitVec 32) : IVec S12800000 32 := broadcastInDim S12800000 ![] bcast_S_S12800000 (constantI S_ 32 b)

/-- A float constant over the flat array. -/
abbrev flatF (b : BitVec 32) : FVec Ideal S12800000 .f32 :=
  broadcastInDim S12800000 ![] bcast_S_S12800000 (constant S_ .f32 b)

/-- Minus the logarithm of a flat array raised by 1e-10. -/
def minusLogs (u : FVec Ideal S12800000 .f32) : FVec Ideal S12800000 .f32 := Host.negf (Host.log (addf u (flatF 0x2EDBE6FF#32)))

/-- The noise of a flat array of random words. -/
def flatNoise (W : IVec S12800000 32) : FVec Ideal S12800000 .f32 :=
  minusLogs (minusLogs (maximumf
    (subf (bitcastToFloat .f32 (ori (Host.shrui W (flatI 9#32)) (flatI 1065353216#32))) (flatF 0x3F800000#32))
    (flatF 0x00000000#32)))

/-- It is made entry by entry. -/
theorem flatNoise_apply (W : IVec S12800000 32) (i : S12800000.Idx) : flatNoise W i = Sample.noise (W i) := by
  have h : flatNoise W i
      = Sample.gumbel (FloatOps.maximumf (Sample.uniform (W i)) (FloatOps.ofBits .f32 0x00000000#32)) := rfl
  rw [h, Sample.clamp_uniform]
  rfl

/-- The noise of the flat array of random words, shaped as the logits. -/
def noises (W : IVec S12800000 32) : FVec Ideal S128x100000 .f32 :=
  shapeCast S128x100000 (flatNoise W) shapeCasts_S12800000_S128x100000

/-- The noise of an entry is that of its random word. -/
theorem noises_apply (W : IVec S12800000 32) (i : S128x100000.Idx) :
    noises W i = Sample.noise (shapeCast S128x100000 W shapeCasts_S12800000_S128x100000 i) :=
  flatNoise_apply _ _

/-! ## The patterns -/

/-- An integer constant over the array. -/
abbrev allI (b : BitVec 32) : IVec S128x100000 32 := broadcastInDim S128x100000 ![] bcast_S_S128x100000 (constantI S_ 32 b)

/-- A float constant over the array. -/
abbrev allF (b : BitVec 32) : FVec Ideal S128x100000 .f32 :=
  broadcastInDim S128x100000 ![] bcast_S_S128x100000 (constant S_ .f32 b)

/-- The powers of two from 2 ^ -13 on. -/
def powers : FVec Ideal S29 .f32 :=
  Host.powf (broadcastInDim S29 ![] bcast_S_S29 (constant S_ .f32 0x40000000#32))
    (sitofp .f32 (addi (broadcastInDim S29 ![] bcast_S_S29 (constantI S_ 32 4294967283#32)) (iotaInDim S29 32 0)))

/-- For every entry and power, one where the entry is at least the power, else zero. -/
def reached (A : FVec Ideal S128x100000 .f32) : IVec S128x100000x29 32 :=
  extui 32 (cmpf .oge
    (broadcastInDim S128x100000x29 ![0, 1, 2] bcast_S128x100000x1_S128x100000x29_0_1_2
      (broadcastInDim S128x100000x1 ![0, 1] bcast_S128x100000_S128x100000x1_0_1 A))
    (broadcastInDim S128x100000x29 ![0, 1, 2] bcast_S1x1x29_S128x100000x29_0_1_2
      (broadcastInDim S1x1x29 ![2] bcast_S29_S1x1x29_2 powers))) natLt_1_32

/-- The number of powers that an entry reaches. -/
def counts (A : FVec Ideal S128x100000 .f32) : IVec S128x100000 32 :=
  Host.reduce IntOp.addi (reached A) (constantI S_ 32 0#32) reducesTo_S128x100000x29_S128x100000_d2 h_S_

/-- The magnitudes in units of their neighbours' distance. -/
def magnitudes (G : FVec Ideal S128x100000 .f32) : FVec Ideal S128x100000 .f32 :=
  mulf (Host.absf G) (Host.powf (allF 0x40000000#32) (sitofp .f32 (subi (allI 24#32) (counts (Host.absf G)))))

/-- Sign, count and magnitude put together. -/
def assembled (G : FVec Ideal S128x100000 .f32) (C : IVec S128x100000 32) (M : FVec Ideal S128x100000 .f32) : IVec S128x100000 32 :=
  addi (addi (select (cmpf .olt G (allF 0x00000000#32)) (allI 32768#32) (allI 0#32)) (Host.shli C (allI 10#32)))
    (fptosi 32 (Host.roundeven M))

/-- The half-precision patterns of an array. -/
def patterns (G : FVec Ideal S128x100000 .f32) : IVec S128x100000 32 := assembled G (counts (Host.absf G)) (magnitudes G)

/-- The table of an array of patterns: the first 50048 columns in the low halves, the rest, filled up, in the high halves. -/
def packed (P : IVec S128x100000 32) : IVec S128x50048 32 :=
  ori (extractStridedSlice S128x50048 ![0, 0] P slices_S128x100000_S128x50048_0_0)
    (Host.shli (concatenate S128x50048 1
        [⟨S128x49952, extractStridedSlice S128x49952 ![0, 50048] P slices_S128x100000_S128x49952_0_50048⟩,
          ⟨S128x96, broadcastInDim S128x96 ![] bcast_S_S128x96 (constantI S_ 32 0#32)⟩]
        concatenates_S128x49952_S128x96_S128x50048_d1)
      (broadcastInDim S128x50048 ![] bcast_S_S128x50048 (constantI S_ 32 16#32)))

variable (m : (ℓ : Loc nD τ sig) → Buf (Elt Ideal) ℓ)

section Groups

variable (V : Valuation τ sig (Elt Ideal))

/-- The exclusive or of the pairs. -/
abbrev pairs : IVec S12800000 32 := xori (V main_v169 : Words.Flat Ideal) (V main_v173)

set_option maxHeartbeats 1000000 in
/-- The operations after the pairs, up to the noise's scaled magnitude, leave the noise, … -/
theorem first_noise : StableHlo.after Words.laterOps V main_v192 = noises (pairs V) := by
  simp only [Words.laterOps, hostOps0, List.drop_succ_cons, List.drop_zero]
  after_results_simp
  rfl

set_option maxHeartbeats 1000000 in
/-- … the counts … -/
theorem first_counts : StableHlo.after Words.laterOps V main_v206 = counts (Host.absf (noises (pairs V))) := by
  simp only [Words.laterOps, hostOps0, List.drop_succ_cons, List.drop_zero]
  after_results_simp
  rfl

set_option maxHeartbeats 1000000 in
/-- … and that magnitude. -/
theorem first_scaled : StableHlo.after Words.laterOps V main_v212 = magnitudes (noises (pairs V)) := by
  simp only [Words.laterOps, hostOps0, List.drop_succ_cons, List.drop_zero]
  after_results_simp
  rfl

set_option maxHeartbeats 1000000 in
/-- The other operations leave the table. -/
theorem rest_table : StableHlo.after (hostOps0_1 ++ (hostOps0_2 ++ (hostOps0_3 ++ hostOps0_4))) V main_v230
    = packed (assembled (V main_v192) (V main_v206) (V main_v212)) := by
  simp only [hostOps0_1, hostOps0_2, hostOps0_3, hostOps0_4, List.cons_append, List.nil_append, StableHlo.TRef.ternary,
    StableHlo.TRef.unary, StableHlo.TRef.toBuf, StableHlo.TRef.ofBuf, cast_eq]
  after_results_simp
  rfl

end Groups

/-- What the operations up to the pairs leave. -/
abbrev moved (W : Valuation τ sig (Elt Ideal)) : Valuation τ sig (Elt Ideal) :=
  StableHlo.after (Threefry.chainOps bcast_S_S12800000 Words.instrs Words.start) (StableHlo.after Words.counterOps W)

/-- The table that the kernel's blocks are read from. -/
theorem V_table (c : Dev nD) : V m c main_v230 = packed (patterns (noises Words.flatWords)) := by
  have e : (List.flatten [hostOps0, hostOps0_1, hostOps0_2, hostOps0_3, hostOps0_4] : List (HloOp τ sig (Elt Ideal)))
      = Words.counterOps ++ (Threefry.chainOps bcast_S_S12800000 Words.instrs Words.start
        ++ (Words.laterOps ++ (hostOps0_1 ++ (hostOps0_2 ++ (hostOps0_3 ++ hostOps0_4))))) := by
    rw [List.flatten_cons, Words.hostOps0_eq]
    simp only [List.flatten_cons, List.flatten_nil, List.append_nil, List.append_assoc]
  unfold V
  rw [e, Threefry.after_append, Threefry.after_append, Threefry.after_append, rest_table, first_noise, first_counts, first_scaled]
  have h : pairs (moved fun b => m (c, b)) = Words.flatWords := Words.words_eq _
  rw [h]
  rfl

/-! ## The table read at an index -/

/-- Reducing the powers drops the third coordinate, … -/
theorem drops : S128x100000x29.Reduces [2] S128x100000 := by decide

/-- … so the index over `(r, k)` with dropped coordinate `j` is `(r, k, j)`. -/
theorem lift_entry (r : Fin 128) (k : Fin 100000) (j : Fin 29) : drops.lift (ix2 r k) j = ix3 r k j := by
  funext a
  match a with
  | ⟨0, _⟩ => rfl
  | ⟨1, _⟩ => rfl
  | ⟨2, _⟩ => rfl

/-- An array, broadcast over the powers. -/
theorem over_powers (A : FVec Ideal S128x100000 .f32) (r : Fin 128) (k : Fin 100000) (j : Fin 29) :
    broadcastInDim S128x100000x29 ![0, 1, 2] bcast_S128x100000x1_S128x100000x29_0_1_2
      (broadcastInDim S128x100000x1 ![0, 1] bcast_S128x100000_S128x100000x1_0_1 A) (ix3 r k j) = A (ix2 r k) := by
  refine (broadcastInDim_apply ![0, 1, 2] bcast_S128x100000x1_S128x100000x29_0_1_2 _ (ix3 r k j) (ix3 r k (0 : Fin 1)) (fun a => by
    match a with
    | ⟨0, _⟩ => rfl
    | ⟨1, _⟩ => rfl
    | ⟨2, _⟩ => rfl)).trans ?_
  exact broadcastInDim_apply ![0, 1] bcast_S128x100000_S128x100000x1_0_1 A (ix3 r k (0 : Fin 1)) (ix2 r k) (fun a => by
    match a with
    | ⟨0, _⟩ => rfl
    | ⟨1, _⟩ => rfl)

/-- The powers, broadcast over an array. -/
theorem over_entries (p : FVec Ideal S29 .f32) (r : Fin 128) (k : Fin 100000) (j : Fin 29) :
    broadcastInDim S128x100000x29 ![0, 1, 2] bcast_S1x1x29_S128x100000x29_0_1_2
      (broadcastInDim S1x1x29 ![2] bcast_S29_S1x1x29_2 p) (ix3 r k j) = p (ix1 j) := by
  refine (broadcastInDim_apply ![0, 1, 2] bcast_S1x1x29_S128x100000x29_0_1_2 _ (ix3 r k j) (ix3 (0 : Fin 1) (0 : Fin 1) j) (fun a => by
    match a with
    | ⟨0, _⟩ => rfl
    | ⟨1, _⟩ => rfl
    | ⟨2, _⟩ => rfl)).trans ?_
  exact broadcastInDim_apply ![2] bcast_S29_S1x1x29_2 p (ix3 (0 : Fin 1) (0 : Fin 1) j) (ix1 j) (fun a => by
    match a with
    | ⟨0, _⟩ => rfl)

/-- A comparison of arrays, widened, at an index. -/
theorem extui_cmpf_apply (x y : FVec Ideal S128x100000x29 .f32) (i : S128x100000x29.Idx) :
    extui 32 (cmpf .oge x y) natLt_1_32 i = (FloatOps.cmpf .oge (x i) (y i)).setWidth 32 := rfl

/-- Whether an entry reaches a power. -/
theorem reached_apply (A : FVec Ideal S128x100000 .f32) (r : Fin 128) (k : Fin 100000) (j : Fin 29) :
    reached A (ix3 r k j) = Rounding.atLeast (A (ix2 r k)) (BitVec.ofNat 32 j.val) := by
  unfold reached
  rw [extui_cmpf_apply, over_powers, over_entries]
  rfl

/-- The number of powers that an entry reaches. -/
theorem counts_apply (A : FVec Ideal S128x100000 .f32) (r : Fin 128) (k : Fin 100000) :
    counts A (ix2 r k) = (Finset.univ : Finset (Fin 29)).fold IntOp.addi (0#32)
      (fun j => Rounding.atLeast (A (ix2 r k)) (BitVec.ofNat 32 j.val)) := by
  have e := Host.reduce_eq_fold_single (IntOp.addi (w := 32)) (reached A) (constantI S_ 32 0#32)
    reducesTo_S128x100000x29_S128x100000_d2 drops h_S_ (ix2 r k)
  exact e.trans (Finset.fold_congr fun j _ => (congrArg (reached A) (lift_entry r k j)).trans (reached_apply A r k j))

/-- The pattern at an entry is made of the entry and its count. -/
theorem assembled_apply (G : FVec Ideal S128x100000 .f32) (C : IVec S128x100000 32) (i : S128x100000.Idx) :
    assembled G C (mulf (Host.absf G) (Host.powf (allF 0x40000000#32) (sitofp .f32 (subi (allI 24#32) C)))) i
      = Rounding.halfWord (G i) (C i) := rfl

/-- The patterns of the random words' noise. -/
theorem patterns_apply (W : IVec S12800000 32) (r : Fin 128) (k : Fin 100000) :
    patterns (noises W) (ix2 r k)
      = Sample.pattern (shapeCast S128x100000 W shapeCasts_S12800000_S128x100000 (ix2 r k)) := by
  unfold patterns magnitudes
  rw [assembled_apply, counts_apply]
  have h : Host.absf (noises W) (ix2 r k) = FloatOps.hostAbsf (noises W (ix2 r k)) := rfl
  rw [h, noises_apply]
  rfl

/-- A word packed of two halves gives back the low one … -/
theorem low_packed (a h : BitVec 32) (ha : a.toNat < 65536) :
    IntOp.andi (IntOp.ori a (IntOp.shli .host h 16#32)) 65535#32 = a := by
  have hs : (h <<< (16#32)).toNat = 2 ^ 16 * (h.toNat % 65536) := by
    have := h.isLt
    rw [BitVec.shiftLeft_eq', BitVec.toNat_shiftLeft, Nat.shiftLeft_eq]
    norm_num
    omega
  apply BitVec.eq_of_toNat_eq
  show ((a ||| h <<< (16#32)) &&& 65535#32).toNat = a.toNat
  rw [BitVec.toNat_and, BitVec.or_comm, BitVec.toNat_or, hs, ← Nat.two_pow_add_eq_or_of_lt ha]
  refine (Nat.and_two_pow_sub_one_eq_mod _ 16).trans ?_
  omega

/-- … and the high one. -/
theorem high_packed (a h : BitVec 32) (ha : a.toNat < 65536) (hh : h.toNat < 65536) :
    IntOp.shrui .vector (IntOp.ori a (IntOp.shli .host h 16#32)) 16#32 = h := by
  have hs : (h <<< (16#32)).toNat = 2 ^ 16 * h.toNat := by
    rw [BitVec.shiftLeft_eq', BitVec.toNat_shiftLeft, Nat.shiftLeft_eq]
    norm_num
    omega
  apply BitVec.eq_of_toNat_eq
  show ((a ||| h <<< (16#32)) >>> (16#32)).toNat = h.toNat
  rw [BitVec.ushiftRight_eq', BitVec.toNat_ushiftRight, BitVec.or_comm, BitVec.toNat_or, hs, ← Nat.two_pow_add_eq_or_of_lt ha,
    Nat.shiftRight_eq_div_pow]
  show (2 ^ 16 * h.toNat + a.toNat) / 2 ^ 16 = h.toNat
  omega

/-- The columns in the high halves, filled up. -/
abbrev rest (P : IVec S128x100000 32) : IVec S128x50048 32 :=
  concatenate S128x50048 1
    [⟨S128x49952, extractStridedSlice S128x49952 ![0, 50048] P slices_S128x100000_S128x49952_0_50048⟩,
      ⟨S128x96, broadcastInDim S128x96 ![] bcast_S_S128x96 (constantI S_ 32 0#32)⟩]
    concatenates_S128x49952_S128x96_S128x50048_d1

/-- A slice read at an index of the array. -/
theorem first_apply (P : IVec S128x100000 32) (r : Fin 128) (k : Fin 50048) (q : Fin 100000) (h : q.val = k.val) :
    extractStridedSlice S128x50048 ![0, 0] P slices_S128x100000_S128x50048_0_0 (ix2 r k) = P (ix2 r q) := by
  unfold extractStridedSlice
  refine congrArg P (funext fun a => ?_)
  match a with
  | ⟨0, _⟩ => exact Fin.ext (Nat.zero_add _)
  | ⟨1, _⟩ => exact Fin.ext ((Nat.zero_add _).trans h.symm)

/-- The rest, read at an index of the array. -/
theorem rest_apply (P : IVec S128x100000 32) (r : Fin 128) (k : Fin 50048) (q : Fin 100000) (h : q.val = k.val + 50048) :
    rest P (ix2 r k) = P (ix2 r q) := by
  have hk : k.val < 49952 := by have := q.isLt; omega
  refine (concatenate_pair_apply_left (t := S128x50048) 1
    (extractStridedSlice S128x49952 ![0, 50048] P slices_S128x100000_S128x49952_0_50048)
    (broadcastInDim S128x96 ![] bcast_S_S128x96 (constantI S_ 32 0#32)) concatenates_S128x49952_S128x96_S128x50048_d1
    (ix2 r k) rfl (ix2 r (⟨k.val, hk⟩ : Fin 49952)) (fun b => by
      match b with
      | ⟨0, _⟩ => rfl
      | ⟨1, _⟩ => rfl)).trans ?_
  unfold extractStridedSlice
  refine congrArg P (funext fun a => ?_)
  match a with
  | ⟨0, _⟩ => exact Fin.ext (Nat.zero_add _)
  | ⟨1, _⟩ => exact Fin.ext ((Nat.add_comm _ _).trans h.symm)

/-- A word of the table. -/
theorem packed_apply (P : IVec S128x100000 32) (j : S128x50048.Idx) :
    packed P j = IntOp.ori (extractStridedSlice S128x50048 ![0, 0] P slices_S128x100000_S128x50048_0_0 j)
      (IntOp.shli .host (rest P j) 16#32) := rfl

/-- The half that the table holds for an entry is its pattern, where every pattern fits in sixteen bits. -/
theorem half_packed (P : IVec S128x100000 32) (hP : ∀ i, (P i).toNat < 65536) (r : Fin 128) (q : Fin 100000) :
    Noise.half (n := 128) (packed P) (ix2 r q) = P (ix2 r q) := by
  have hq := q.isLt
  unfold Noise.half
  by_cases h : q.val < 50048
  · have e : Noise.tableIdx (n := 128) (ix2 r q) = ix2 r (⟨q.val, h⟩ : Fin 50048) :=
      Noise.tableIdx_of _ _ rfl (Nat.mod_eq_of_lt h).symm
    rw [if_pos (show ((ix2 r q : S128x100000.Idx) 1).val < 50048 from h), e, packed_apply, first_apply P r _ q rfl]
    exact low_packed _ _ (hP _)
  · obtain ⟨k, hk⟩ : ∃ k : Fin 50048, q.val = k.val + 50048 :=
      ⟨⟨q.val - 50048, by omega⟩, (Nat.sub_add_cancel (Nat.le_of_not_lt h)).symm⟩
    have e : Noise.tableIdx (n := 128) (ix2 r q) = ix2 r k :=
      Noise.tableIdx_of _ _ rfl (by
        show k.val = q.val % 50048
        rw [hk, Nat.add_mod_right, Nat.mod_eq_of_lt k.isLt])
    rw [if_neg (show ¬ ((ix2 r q : S128x100000.Idx) 1).val < 50048 from h), e, packed_apply, rest_apply P r k q hk,
      first_apply P r k (k.castLE (by decide : 50048 ≤ 100000)) rfl]
    exact high_packed _ _ (hP _) (hP _)

/-- An entry's noisy logit: the logit plus the rounded noise of the entry's random word. -/
theorem noisy_flat (X : FVec Ideal S128x100000 .f32) (W : IVec S12800000 32) (r : Fin 128) (q : Fin 100000) :
    Noise.noisy (F := Ideal) (n := 128) X (packed (patterns (noises W))) (ix2 r q)
      = Sample.noisyLogits X (shapeCast S128x100000 W shapeCasts_S12800000_S128x100000) (ix2 r q) := by
  have hP : ∀ i, (patterns (noises W) i).toNat < 65536 := by
    intro i
    obtain ⟨r, k, rfl⟩ : ∃ (r : Fin 128) (k : Fin 100000), i = (ix2 r k : S128x100000.Idx) := ⟨i 0, i 1, eq_ix2 i⟩
    rw [patterns_apply]
    exact Sample.pattern_lt _
  unfold Noise.noisy
  rw [half_packed _ hP, patterns_apply, Sample.decoded_pattern]
  rfl

/-- The flat array of random words, read by rows and columns. -/
theorem words_apply (r : Fin 128) (k : Fin 100000) :
    shapeCast S128x100000 Words.flatWords shapeCasts_S12800000_S128x100000 (ix2 r k) = Threefry.words (ix2 r k) := by
  have hr := r.isLt
  have hk := k.isLt
  refine (shapeCast_apply Words.flatWords shapeCasts_S12800000_S128x100000 (ix2 r k)
    (ix1 (⟨r.val * 100000 + k.val, by omega⟩ : Fin 12800000)) ?_).trans rfl
  rw [Shape.rowMajor_val_one, Shape.rowMajor_val_two]
  rfl

/-- The flat array of random words, shaped as the logits, is the array of random words. -/
theorem words_eq : (shapeCast S128x100000 Words.flatWords shapeCasts_S12800000_S128x100000 : IVec S128x100000 32) = Threefry.words := by
  funext i
  obtain ⟨r, k, rfl⟩ : ∃ (r : Fin 128) (k : Fin 100000), i = (ix2 r k : S128x100000.Idx) := ⟨i 0, i 1, eq_ix2 i⟩
  exact words_apply r k

/-- The noisy logits of the kernel's table. -/
theorem noisy_table (X : FVec Ideal S128x100000 .f32) (r : Fin 128) (q : Fin 100000) :
    Noise.noisy (F := Ideal) (n := 128) X (packed (patterns (noises Words.flatWords))) (ix2 r q)
      = Sample.noisyLogits X Threefry.words (ix2 r q) :=
  (noisy_flat X Words.flatWords r q).trans (congrArg (fun B => Sample.noisyLogits X B (ix2 r q)) words_eq)

end Cert.KernelIdeal.Table

end
-- ==== Proof.Array.lean ====
/-
  The kernel's result array after the run: the row softmax of the whole array's noisy logits.
-/
module

public import proofs.«01_k».proof.Proof.Point
public import proofs.«01_k».proof.Proof.Table
public import proofs.«01_k».proof.Proof.Gen.KernelIdeal.Value

@[expose] public section

set_option maxRecDepth 16384

noncomputable section

namespace Cert.KernelIdeal.Array

open Cert.KernelIdeal Cert.KernelIdeal.Gen Cert.Noise Idealize.ShloMosaic Idealize.ShloMosaic.TcCoe Idealize.SL.Sem
open Idealize.ShloMosaic.ValueIdx
open Idealize.ShloMosaic.Pipeline (Dat)

/-- Block row `r` of grid point `t` is array row `16 t + r`. -/
def row (t : Fin cfg0.N) (r : Fin 16) : Fin 128 :=
  ⟨t.val * 16 + r.val, by have h := t.isLt; have hN : cfg0.N = 8 := N_0; have := r.isLt; omega⟩

/-- The noisy logits of 16 consecutive rows are those rows of the array's noisy logits. -/
theorem noisy_rows {F : FTy → Type} [FloatOps F] (X : S128x100000.Idx → F .f32) (T : S128x50048.Idx → BitVec 32)
    (x : S16x100000.Idx → F .f32) (g : S16x50048.Idx → BitVec 32) (R : Fin 128) (r : Fin 16)
    (hx : ∀ k, x (ix2 r k) = X (ix2 R k)) (hg : ∀ k, g (ix2 r k) = T (ix2 R k)) (k : Fin 100000) :
    noisy x g (ix2 r k) = noisy X T (ix2 R k) := by
  have e : tableIdx (ix2 r k) = ix2 r (⟨k.val % 50048, Nat.mod_lt _ (by decide)⟩ : Fin 50048) := tableIdx_of _ _ rfl rfl
  have e' : tableIdx (ix2 R k) = ix2 R (⟨k.val % 50048, Nat.mod_lt _ (by decide)⟩ : Fin 50048) := tableIdx_of _ _ rfl rfl
  unfold noisy half
  rw [e, e', hx, hg]

/-- The three windows walk the rows together and take every column: the block index of point `t` is `(t, 0)`. -/
theorem index_eq : ∀ t : Fin cfg0.N,
    (win0_0.index t 0 = t.val ∧ win0_0.index t 1 = 0) ∧ (win0_1.index t 0 = t.val ∧ win0_1.index t 1 = 0)
      ∧ win0_2.index t 0 = t.val ∧ win0_2.index t 1 = 0 :=
  (by decide +kernel : ∀ t : Fin grid0.N,
    (win0_0.index t 0 = t.val ∧ win0_0.index t 1 = 0) ∧ (win0_1.index t 0 = t.val ∧ win0_1.index t 1 = 0)
      ∧ win0_2.index t 0 = t.val ∧ win0_2.index t 1 = 0)

/-- Where element `(r, k)` of the result window's block `t` sits in the array. -/
theorem emb2 (t : Fin cfg0.N) (r : Fin 16) (k : Fin 100000) :
    (win0_2.rect t).emb (ix2 r k) = (ix2 (row t r) k : S128x100000.Idx) := by
  obtain ⟨-, -, h0, h1⟩ := index_eq t
  funext a
  match a with
  | ⟨0, _⟩ => exact Fin.ext (by show win0_2.index t 0 * 16 + 1 * r.val = t.val * 16 + r.val; rw [h0]; omega)
  | ⟨1, _⟩ => exact Fin.ext (by show win0_2.index t 1 * 100000 + 1 * k.val = k.val; rw [h1]; omega)

/-- Where element `(r, k)` of the logits window's block `t` sits. -/
theorem emb0 (t : Fin cfg0.N) (r : Fin 16) (k : Fin 100000) :
    (win0_0.rect t).emb (ix2 r k) = (ix2 (row t r) k : S128x100000.Idx) := by
  obtain ⟨⟨h0, h1⟩, -⟩ := index_eq t
  funext a
  match a with
  | ⟨0, _⟩ => exact Fin.ext (by show win0_0.index t 0 * 16 + 1 * r.val = t.val * 16 + r.val; rw [h0]; omega)
  | ⟨1, _⟩ => exact Fin.ext (by show win0_0.index t 1 * 100000 + 1 * k.val = k.val; rw [h1]; omega)

/-- Where element `(r, k)` of the table window's block `t` sits. -/
theorem emb1 (t : Fin cfg0.N) (r : Fin 16) (k : Fin 50048) :
    (win0_1.rect t).emb (ix2 r k) = (ix2 (row t r) k : S128x50048.Idx) := by
  obtain ⟨-, ⟨h0, h1⟩, -⟩ := index_eq t
  funext a
  match a with
  | ⟨0, _⟩ => exact Fin.ext (by show win0_1.index t 0 * 16 + 1 * r.val = t.val * 16 + r.val; rw [h0]; omega)
  | ⟨1, _⟩ => exact Fin.ext (by show win0_1.index t 1 * 50048 + 1 * k.val = k.val; rw [h1]; omega)

/-- An index of a block is a row and a column. -/
theorem split (y : S16x100000.Idx) : ∃ (r : Fin 16) (k : Fin 100000), y = (ix2 r k : S16x100000.Idx) :=
  ⟨y 0, y 1, eq_ix2 y⟩

/-- The columns of the array. -/
theorem col_lt (i : S128x100000.Idx) : (i 1).val < 100000 := lt_of_lt_of_eq (i 1).isLt (by decide : S128x100000.size 1 = 100000)

variable (m : (ℓ : Loc nD τ sig) → Buf (Elt Ideal) ℓ)

/-- The result the whole array is shown to hold. -/
abbrev result (c : Dev nD) : Buf (Elt Ideal) ((c : Thread nD τ).loc main_v231) :=
  Sample.result (m ((c : Thread nD τ).loc main_arg0)) Threefry.words

/-- The logits block of point `t` holds the array's rows. -/
theorem block0 (c : Dev nD) (t : Fin cfg0.N) (r : Fin 16) (k : Fin 100000) :
    iblk m c 0 t (ix2 r k) = m ((c : Thread nD τ).loc main_arg0) (ix2 (row t r) k : S128x100000.Idx) := by
  rw [← emb0 t r k, ← V_main_arg0 m c]
  rfl

/-- The table block of point `t` holds the table's rows. -/
theorem block1 (c : Dev nD) (t : Fin cfg0.N) (r : Fin 16) (k : Fin 50048) :
    iblk m c 1 t (ix2 r k)
      = Table.packed (Table.patterns (Table.noises Words.flatWords)) (ix2 (row t r) k : S128x50048.Idx) := by
  rw [← emb1 t r k, ← Table.V_table m c]
  rfl

/-- The result's block `t` holds the array's rows. -/
theorem block2 {c : Dev nD} (G : Buf (Elt Ideal) ((c : Thread nD τ).loc main_v231)) (t : Fin cfg0.N) (r : Fin 16) (k : Fin 100000) :
    (win0_2.blk t).view.read (Elt Ideal) G (ix2 r k) = G (ix2 (row t r) k : S128x100000.Idx) := by
  rw [← emb2 t r k]
  rfl

/-- What point `t` writes back is block `t` of that result. -/
theorem flushed_eq (c : Dev nD) (t : Fin cfg0.N) :
    (dats m 0 c).flushed 2 t = (win0_2.blk t).view.read (Elt Ideal) (result m c) := by
  rw [Value.flushed2_A, Point.out_eq]
  funext y
  obtain ⟨r, k, rfl⟩ := split y
  refine Eq.trans (b := Softmax.softmax (fun q => noisy (F := Ideal) (iblk m c 0 t) (iblk m c 1 t) (ix2 r q)) k)
    (Point.pay_apply _ r k) ?_
  refine Eq.trans (b := result m c (ix2 (row t r) k)) ?_ (block2 (result m c) t r k).symm
  refine congrArg (fun f => Softmax.softmax f k) (funext fun q => ?_)
  exact (noisy_rows (F := Ideal) _ _ _ _ (row t r) r (block0 m c t r) (block1 m c t r) q).trans (Table.noisy_table _ (row t r) q)

/-- An index of the result array is in block `t` when its row is one of the block's sixteen. -/
theorem mem_blk (t : Fin cfg0.N) (i : S128x100000.Idx) (h : t.val * 16 ≤ (i 0).val ∧ (i 0).val < t.val * 16 + 16) :
    i ∈ ((cfg0.win 2).blk t).view.set := by
  show i ∈ ((View.whole main_v231).slice (win0_2.rect t)).set
  rw [View.set_slice_whole, Rect.mem_set_unit]
  obtain ⟨-, -, h0, h1⟩ := index_eq t
  have hk := col_lt i
  intro a
  match a with
  | ⟨0, _⟩ => show win0_2.index t 0 * 16 ≤ (i 0).val ∧ (i 0).val < win0_2.index t 0 * 16 + 16
              rw [h0]; exact h
  | ⟨1, _⟩ => show win0_2.index t 1 * 100000 ≤ (i 1).val ∧ (i 1).val < win0_2.index t 1 * 100000 + 100000
              rw [h1, Nat.zero_mul, Nat.zero_add]; exact ⟨Nat.zero_le _, hk⟩

/-- Every index of the result array is in some point's block. -/
theorem cover (i : S128x100000.Idx) :
    ∃ t : Fin cfg0.N, (cfg0.win 2).flush t = true ∧ i ∈ ((cfg0.win 2).blk t).view.set := by
  have h0 : (i 0).val < 128 := (i 0).isLt
  have hN : cfg0.N = 8 := N_0
  exact ⟨⟨(i 0).val / 16, by omega⟩, flush0_2 _, mem_blk _ i (by dsimp only; omega)⟩

/-- So the array ends holding the row softmax of the noisy logits. -/
theorem final (c : Dev nD) : (dats m 0 c).arrAt 2 cfg0.N = result m c :=
  (dats m 0 c).arrAt_eq_of_cover 2 (result m c) (fun t _ => flushed_eq m c t) cover

end Cert.KernelIdeal.Array

end
-- ==== Proof.Draw.lean ====
/-
  The reference's uniform deviates: it splits the seed into a key, counts the entries, moves each counter to its random word,
  and makes a deviate of the word.
-/
module

public import proofs.«01_k».proof.Proof.Threefry
public import proofs.«01_k».proof.Proof.Gen.ReferenceIdeal
public import Idealize.ShloMosaic.Lib.Pipeline.Value
public import Idealize.ShloMosaic.Lib.ValueLayoutCasts

@[expose] public section

set_option maxRecDepth 16384

noncomputable section

namespace Cert.ReferenceIdeal.Draw

open Cert.ReferenceIdeal Cert.ReferenceIdeal.Gen Idealize.ShloMosaic Idealize.ShloMosaic.TcCoe
open Idealize.ShloMosaic.StableHlo
open Idealize.ShloMosaic.ValueIdx
open Threefry (Instr chainOps held chain final words)

variable {F : FTy → Type} [FloatOps F]

/-! ## The operations -/

/-- The contents of the buffers by their type: arrays of floats, of words, of double words and of truth values, … -/
abbrev Floats (F : FTy → Type) : Type := (⟨S128x100000, .f32⟩ : BufTy).Contents (Elt F)
abbrev Words (F : FTy → Type) : Type := (⟨S128x100000, .i32⟩ : BufTy).Contents (Elt F)
abbrev Longs (F : FTy → Type) : Type := (⟨S128x100000, .i64⟩ : BufTy).Contents (Elt F)
abbrev Truths (F : FTy → Type) : Type := (⟨S128x100000, .i1⟩ : BufTy).Contents (Elt F)
/-- … row values, … -/
abbrev Row (F : FTy → Type) : Type := (⟨S128, .f32⟩ : BufTy).Contents (Elt F)
/-- … single values, … -/
abbrev Float (F : FTy → Type) : Type := (⟨S_, .f32⟩ : BufTy).Contents (Elt F)
abbrev Word (F : FTy → Type) : Type := (⟨S_, .i32⟩ : BufTy).Contents (Elt F)
abbrev Long (F : FTy → Type) : Type := (⟨S_, .i64⟩ : BufTy).Contents (Elt F)
/-- … and arrays of one entry and keys. -/
abbrev Corner (F : FTy → Type) : Type := (⟨S1x1, .f32⟩ : BufTy).Contents (Elt F)
abbrev Single (F : FTy → Type) : Type := (⟨S1, .i32⟩ : BufTy).Contents (Elt F)
abbrev Key (F : FTy → Type) : Type := (⟨S2, .i32⟩ : BufTy).Contents (Elt F)

/-- A constant filled over an array. -/
abbrev fill {α : Type} (x : S_.Idx → α) : S128x100000.Idx → α := broadcastInDim S128x100000 ![] bcast_S_S128x100000 x

/-- The key of the seed, and the range of the deviates. -/
abbrev keyOps : List (HloOp τ sig (Elt F)) :=
  [ nullary main_c (constantI S_ 32 42#32),
    nullary main_c_0 (constantI S_ 32 32#32),
    binary main_c main_c_0 main_v0 (Host.shrui : Word F → Word F → Word F),
    unary main_v0 main_v1 (id : Word F → Word F),
    unary main_v1 main_v2 (broadcastInDim S1 ![] bcast_S_S1 : Word F → Single F),
    nullary main_c_1 (constantI S_ 32 4294967295#32),
    binary main_c main_c_1 main_v3 (andi : Word F → Word F → Word F),
    unary main_v3 main_v4 (id : Word F → Word F),
    unary main_v4 main_v5 (broadcastInDim S1 ![] bcast_S_S1 : Word F → Single F),
    binary main_v2 main_v5 main_v6
      ((fun a b => concatenate S2 0 [⟨S1, a⟩, ⟨S1, b⟩] concatenates_S1_S1_S2_d0) : Single F → Single F → Key F),
    nullary main_cst (constant S_ .f32 0x00000000#32),
    nullary main_cst_2 (constant S_ .f32 0x3F800000#32) ]

/-- The two words of the key, and the counters. -/
abbrev countOps : List (HloOp τ sig (Elt F)) :=
  [ unary main_cst main_call0_v0 (id : Float F → Float F),
    unary main_cst_2 main_call0_v1 (id : Float F → Float F),
    unary main_call0_v0 main_call0_v2 (broadcastInDim S1x1 ![] bcast_S_S1x1 : Float F → Corner F),
    unary main_call0_v1 main_call0_v3 (broadcastInDim S1x1 ![] bcast_S_S1x1 : Float F → Corner F),
    unary main_v6 main_call0_v4 ((extractStridedSlice S1 ![0] · slices_S2_S1_0) : Key F → Single F),
    reshape main_call0_v4 main_call0_v5 (rfl : (.i32 : EltTy) = .i32) shapeCasts_S1_S_,
    unary main_v6 main_call0_v6 ((extractStridedSlice S1 ![1] · slices_S2_S1_1) : Key F → Single F),
    reshape main_call0_v6 main_call0_v7 (rfl : (.i32 : EltTy) = .i32) shapeCasts_S1_S_,
    nullary main_call0_v8 (iotaInDim S128x100000 64 0),
    nullary main_call0_v9 (iotaInDim S128x100000 64 1),
    nullary main_call0_c (constantI S_ 64 100000#64),
    unary main_call0_c main_call0_v10 (fill : Long F → Longs F),
    binary main_call0_v10 main_call0_v8 main_call0_v11 (muli : Longs F → Longs F → Longs F),
    nullary main_call0_c_0 (constantI S_ 64 1#64),
    unary main_call0_c_0 main_call0_v12 (fill : Long F → Longs F),
    binary main_call0_v12 main_call0_v9 main_call0_v13 (muli : Longs F → Longs F → Longs F),
    binary main_call0_v11 main_call0_v13 main_call0_v14 (addi : Longs F → Longs F → Longs F),
    nullary main_call0_c_1 (constantI S_ 64 32#64),
    unary main_call0_c_1 main_call0_v15 (fill : Long F → Longs F),
    binary main_call0_v14 main_call0_v15 main_call0_v16 (Host.shrui : Longs F → Longs F → Longs F),
    unary main_call0_v14 main_call0_v17 ((trunci 32 · natLt_32_64) : Longs F → Words F),
    unary main_call0_v16 main_call0_v18 ((trunci 32 · natLt_32_64) : Longs F → Words F) ]

/-- The third key word, and the first additions of the key. -/
abbrev keyedOps : List (HloOp τ sig (Elt F)) :=
  [ binary main_call0_v5 main_call0_v7 main_call0_call0_v0 (xori : Word F → Word F → Word F),
    nullary main_call0_call0_c (constantI S_ 32 466688986#32),
    binary main_call0_call0_v0 main_call0_call0_c main_call0_call0_v1 (xori : Word F → Word F → Word F),
    unary main_call0_v5 main_call0_call0_v2 (fill : Word F → Words F),
    binary main_call0_v18 main_call0_call0_v2 main_call0_call0_v3 (addi : Words F → Words F → Words F),
    unary main_call0_v7 main_call0_call0_v4 (fill : Word F → Words F),
    binary main_call0_v17 main_call0_call0_v4 main_call0_call0_v5 (addi : Words F → Words F → Words F) ]

/-- The buffers of the pairs at first. -/
abbrev start : Threefry.Words sig S128x100000 × Threefry.Words sig S128x100000 :=
  (.of main_call0_call0_v3, .of main_call0_call0_v5)

/-- The rounds and additions. -/
def instrs : List (Instr sig S128x100000) :=
  [ .round 13#32 19#32 (.of main_call0_call0_v6) (.of main_call0_call0_c_0) (.of main_call0_call0_v7)
      (.of main_call0_call0_v8) (.of main_call0_call0_c_1) (.of main_call0_call0_v9) (.of main_call0_call0_v10)
      (.of main_call0_call0_v11) (.of main_call0_call0_v12),
    .round 15#32 17#32 (.of main_call0_call0_v13) (.of main_call0_call0_c_2) (.of main_call0_call0_v14)
      (.of main_call0_call0_v15) (.of main_call0_call0_c_3) (.of main_call0_call0_v16) (.of main_call0_call0_v17)
      (.of main_call0_call0_v18) (.of main_call0_call0_v19),
    .round 26#32 6#32 (.of main_call0_call0_v20) (.of main_call0_call0_c_4) (.of main_call0_call0_v21)
      (.of main_call0_call0_v22) (.of main_call0_call0_c_5) (.of main_call0_call0_v23) (.of main_call0_call0_v24)
      (.of main_call0_call0_v25) (.of main_call0_call0_v26),
    .round 6#32 26#32 (.of main_call0_call0_v27) (.of main_call0_call0_c_6) (.of main_call0_call0_v28)
      (.of main_call0_call0_v29) (.of main_call0_call0_c_7) (.of main_call0_call0_v30) (.of main_call0_call0_v31)
      (.of main_call0_call0_v32) (.of main_call0_call0_v33),
    .left false 42#32 (.of main_call0_v7) (.of main_call0_call0_v34) (.of main_call0_call0_v35),
    .right false 466689008#32 (.of main_call0_call0_v1) (.of main_call0_call0_v36) (.of main_call0_call0_v37),
    .right true 1#32 (.of main_call0_call0_c_8) (.of main_call0_call0_v38) (.of main_call0_call0_v39),
    .round 17#32 15#32 (.of main_call0_call0_v40) (.of main_call0_call0_c_9) (.of main_call0_call0_v41)
      (.of main_call0_call0_v42) (.of main_call0_call0_c_10) (.of main_call0_call0_v43) (.of main_call0_call0_v44)
      (.of main_call0_call0_v45) (.of main_call0_call0_v46),
    .round 29#32 3#32 (.of main_call0_call0_v47) (.of main_call0_call0_c_11) (.of main_call0_call0_v48)
      (.of main_call0_call0_v49) (.of main_call0_call0_c_12) (.of main_call0_call0_v50) (.of main_call0_call0_v51)
      (.of main_call0_call0_v52) (.of main_call0_call0_v53),
    .round 16#32 16#32 (.of main_call0_call0_v54) (.of main_call0_call0_c_13) (.of main_call0_call0_v55)
      (.of main_call0_call0_v56) (.of main_call0_call0_c_14) (.of main_call0_call0_v57) (.of main_call0_call0_v58)
      (.of main_call0_call0_v59) (.of main_call0_call0_v60),
    .round 24#32 8#32 (.of main_call0_call0_v61) (.of main_call0_call0_c_15) (.of main_call0_call0_v62)
      (.of main_call0_call0_v63) (.of main_call0_call0_c_16) (.of main_call0_call0_v64) (.of main_call0_call0_v65)
      (.of main_call0_call0_v66) (.of main_call0_call0_v67),
    .left false 466689008#32 (.of main_call0_call0_v1) (.of main_call0_call0_v68) (.of main_call0_call0_v69),
    .right false 0#32 (.of main_call0_v5) (.of main_call0_call0_v70) (.of main_call0_call0_v71),
    .right true 2#32 (.of main_call0_call0_c_17) (.of main_call0_call0_v72) (.of main_call0_call0_v73),
    .round 13#32 19#32 (.of main_call0_call0_v74) (.of main_call0_call0_c_18) (.of main_call0_call0_v75)
      (.of main_call0_call0_v76) (.of main_call0_call0_c_19) (.of main_call0_call0_v77) (.of main_call0_call0_v78)
      (.of main_call0_call0_v79) (.of main_call0_call0_v80),
    .round 15#32 17#32 (.of main_call0_call0_v81) (.of main_call0_call0_c_20) (.of main_call0_call0_v82)
      (.of main_call0_call0_v83) (.of main_call0_call0_c_21) (.of main_call0_call0_v84) (.of main_call0_call0_v85)
      (.of main_call0_call0_v86) (.of main_call0_call0_v87),
    .round 26#32 6#32 (.of main_call0_call0_v88) (.of main_call0_call0_c_22) (.of main_call0_call0_v89)
      (.of main_call0_call0_v90) (.of main_call0_call0_c_23) (.of main_call0_call0_v91) (.of main_call0_call0_v92)
      (.of main_call0_call0_v93) (.of main_call0_call0_v94),
    .round 6#32 26#32 (.of main_call0_call0_v95) (.of main_call0_call0_c_24) (.of main_call0_call0_v96)
      (.of main_call0_call0_v97) (.of main_call0_call0_c_25) (.of main_call0_call0_v98) (.of main_call0_call0_v99)
      (.of main_call0_call0_v100) (.of main_call0_call0_v101),
    .left false 0#32 (.of main_call0_v5) (.of main_call0_call0_v102) (.of main_call0_call0_v103),
    .right false 42#32 (.of main_call0_v7) (.of main_call0_call0_v104) (.of main_call0_call0_v105),
    .right true 3#32 (.of main_call0_call0_c_26) (.of main_call0_call0_v106) (.of main_call0_call0_v107),
    .round 17#32 15#32 (.of main_call0_call0_v108) (.of main_call0_call0_c_27) (.of main_call0_call0_v109)
      (.of main_call0_call0_v110) (.of main_call0_call0_c_28) (.of main_call0_call0_v111) (.of main_call0_call0_v112)
      (.of main_call0_call0_v113) (.of main_call0_call0_v114),
    .round 29#32 3#32 (.of main_call0_call0_v115) (.of main_call0_call0_c_29) (.of main_call0_call0_v116)
      (.of main_call0_call0_v117) (.of main_call0_call0_c_30) (.of main_call0_call0_v118) (.of main_call0_call0_v119)
      (.of main_call0_call0_v120) (.of main_call0_call0_v121),
    .round 16#32 16#32 (.of main_call0_call0_v122) (.of main_call0_call0_c_31) (.of main_call0_call0_v123)
      (.of main_call0_call0_v124) (.of main_call0_call0_c_32) (.of main_call0_call0_v125) (.of main_call0_call0_v126)
      (.of main_call0_call0_v127) (.of main_call0_call0_v128),
    .round 24#32 8#32 (.of main_call0_call0_v129) (.of main_call0_call0_c_33) (.of main_call0_call0_v130)
      (.of main_call0_call0_v131) (.of main_call0_call0_c_34) (.of main_call0_call0_v132) (.of main_call0_call0_v133)
      (.of main_call0_call0_v134) (.of main_call0_call0_v135),
    .left false 42#32 (.of main_call0_v7) (.of main_call0_call0_v136) (.of main_call0_call0_v137),
    .right false 466689008#32 (.of main_call0_call0_v1) (.of main_call0_call0_v138) (.of main_call0_call0_v139),
    .right true 4#32 (.of main_call0_call0_c_35) (.of main_call0_call0_v140) (.of main_call0_call0_v141),
    .round 13#32 19#32 (.of main_call0_call0_v142) (.of main_call0_call0_c_36) (.of main_call0_call0_v143)
      (.of main_call0_call0_v144) (.of main_call0_call0_c_37) (.of main_call0_call0_v145) (.of main_call0_call0_v146)
      (.of main_call0_call0_v147) (.of main_call0_call0_v148),
    .round 15#32 17#32 (.of main_call0_call0_v149) (.of main_call0_call0_c_38) (.of main_call0_call0_v150)
      (.of main_call0_call0_v151) (.of main_call0_call0_c_39) (.of main_call0_call0_v152) (.of main_call0_call0_v153)
      (.of main_call0_call0_v154) (.of main_call0_call0_v155),
    .round 26#32 6#32 (.of main_call0_call0_v156) (.of main_call0_call0_c_40) (.of main_call0_call0_v157)
      (.of main_call0_call0_v158) (.of main_call0_call0_c_41) (.of main_call0_call0_v159) (.of main_call0_call0_v160)
      (.of main_call0_call0_v161) (.of main_call0_call0_v162),
    .round 6#32 26#32 (.of main_call0_call0_v163) (.of main_call0_call0_c_42) (.of main_call0_call0_v164)
      (.of main_call0_call0_v165) (.of main_call0_call0_c_43) (.of main_call0_call0_v166) (.of main_call0_call0_v167)
      (.of main_call0_call0_v168) (.of main_call0_call0_v169),
    .left false 466689008#32 (.of main_call0_call0_v1) (.of main_call0_call0_v170) (.of main_call0_v19_0),
    .right false 0#32 (.of main_call0_v5) (.of main_call0_call0_v172) (.of main_call0_call0_v173),
    .right true 5#32 (.of main_call0_call0_c_44) (.of main_call0_call0_v174) (.of main_call0_v19_1) ]

/-- The deviates of the pairs. -/
abbrev deviateOps : List (HloOp τ sig (Elt F)) :=
  [ binary main_call0_v19_0 main_call0_v19_1 main_call0_v20 (xori : Words F → Words F → Words F),
    nullary main_call0_c_2 (constantI S_ 32 9#32),
    unary main_call0_c_2 main_call0_v21 (fill : Word F → Words F),
    binary main_call0_v20 main_call0_v21 main_call0_v22 (Host.shrui : Words F → Words F → Words F),
    nullary main_call0_c_3 (constantI S_ 32 1065353216#32),
    unary main_call0_c_3 main_call0_v23 (fill : Word F → Words F),
    binary main_call0_v22 main_call0_v23 main_call0_v24 (ori : Words F → Words F → Words F),
    unary main_call0_v24 main_call0_v25 (bitcastToFloat .f32 : Words F → Floats F),
    nullary main_call0_cst (constant S_ .f32 0x3F800000#32),
    unary main_call0_cst main_call0_v26 (fill : Float F → Floats F),
    binary main_call0_v25 main_call0_v26 main_call0_v27 (subf : Floats F → Floats F → Floats F),
    binary main_call0_v3 main_call0_v2 main_call0_v28 (subf : Corner F → Corner F → Corner F),
    unary main_call0_v28 main_call0_v29 (broadcastInDim S128x100000 ![0, 1] bcast_S1x1_S128x100000_0_1 : Corner F → Floats F),
    binary main_call0_v27 main_call0_v29 main_call0_v30 (mulf : Floats F → Floats F → Floats F),
    unary main_call0_v2 main_call0_v31 (broadcastInDim S128x100000 ![0, 1] bcast_S1x1_S128x100000_0_1 : Corner F → Floats F),
    binary main_call0_v30 main_call0_v31 main_call0_v32 (addf : Floats F → Floats F → Floats F),
    unary main_call0_v2 main_call0_v33 (broadcastInDim S128x100000 ![0, 1] bcast_S1x1_S128x100000_0_1 : Corner F → Floats F),
    binary main_call0_v33 main_call0_v32 main_v7 (maximumf : Floats F → Floats F → Floats F) ]

/-- The whole draw. -/
abbrev drawOps : List (HloOp τ sig (Elt F)) :=
  keyOps ++ (countOps ++ (keyedOps ++ (chainOps bcast_S_S128x100000 instrs start ++ deviateOps)))

/-! ## The words -/

/-- The moves are those of the generator. -/
theorem moves_eq : instrs.map Instr.move = Threefry.moves := rfl

/-- The instructions' buffers come in order. -/
theorem instrs_ordered : Threefry.ordered 42 instrs = true := by decide

/-- Their earlier words are key words. -/
theorem instrs_early : ∀ i ∈ instrs, i.early 42 = true := by decide

/-- The buffers of the moved pairs. -/
theorem final_eq : final instrs start = (.of main_call0_v19_0, .of main_call0_v19_1) := rfl

/-- The key of the seed 42: the seed shifted right by 32 places, and the seed. -/
def key : IVec S2 32 :=
  concatenate S2 0
    [⟨S1, broadcastInDim S1 ![] bcast_S_S1 (Host.shrui (constantI S_ 32 42#32) (constantI S_ 32 32#32))⟩,
      ⟨S1, broadcastInDim S1 ![] bcast_S_S1 (andi (constantI S_ 32 42#32) (constantI S_ 32 4294967295#32))⟩]
    concatenates_S1_S1_S2_d0

/-- Its first word … -/
def key0 (K : IVec S2 32) : IVec S_ 32 := shapeCast S_ (extractStridedSlice S1 ![0] K slices_S2_S1_0) shapeCasts_S1_S_

/-- … and its second. -/
def key1 (K : IVec S2 32) : IVec S_ 32 := shapeCast S_ (extractStridedSlice S1 ![1] K slices_S2_S1_1) shapeCasts_S1_S_

/-- A word of a key, read in the key. -/
theorem key_word (K : IVec S2 32) (a : Nat) (hs : S2.Slices ![a] S1) (q : Fin 2) (hq : q.val = a) (i : S_.Idx) :
    shapeCast S_ (extractStridedSlice S1 ![a] K hs) shapeCasts_S1_S_ i = K (ix1 q) := by
  refine (shapeCast_apply _ shapeCasts_S1_S_ i (ix1 (0 : Fin 1)) ?_).trans ?_
  · have h1 := (S1.rowMajor (ix1 (0 : Fin 1))).isLt
    have h2 := (S_.rowMajor i).isLt
    have e1 : S1.numel = 1 := by decide
    have e2 : S_.numel = 1 := by decide
    omega
  · unfold extractStridedSlice
    refine congrArg K (funext fun b => ?_)
    match b with
    | ⟨0, _⟩ => exact Fin.ext ((Nat.add_zero _).trans hq.symm)

/-- They are zero … -/
theorem key0_eq : key0 key = constantI S_ 32 0#32 := by
  funext i
  refine (key_word key 0 _ 0 rfl i).trans ?_
  refine (concatenate_pair_apply_left (t := S2) 0 _ _ concatenates_S1_S1_S2_d0 (ix1 (0 : Fin 2)) rfl (ix1 (0 : Fin 1)) (fun b => by
    match b with
    | ⟨0, _⟩ => rfl)).trans ?_
  show IntOp.shrui .host 42#32 32#32 = 0#32
  decide

/-- … and 42. -/
theorem key1_eq : key1 key = constantI S_ 32 42#32 := by
  funext i
  refine (key_word key 1 _ 1 rfl i).trans ?_
  refine (concatenate_pair_apply_right (t := S2) 0 _ _ concatenates_S1_S1_S2_d0 (ix1 (1 : Fin 2)) rfl rfl (ix1 (0 : Fin 1))
    (fun b hb => by
    match b with
    | ⟨0, _⟩ => exact absurd rfl hb) rfl).trans ?_
  show IntOp.andi 42#32 4294967295#32 = 42#32
  decide

/-- The counters: double words, the number of columns times the row plus the column. -/
def counters : IVec S128x100000 64 :=
  addi (muli (fill (constantI S_ 64 100000#64)) (iotaInDim S128x100000 64 0))
    (muli (fill (constantI S_ 64 1#64)) (iotaInDim S128x100000 64 1))

/-- The lower halves of the counters … -/
def lows : IVec S128x100000 32 := trunci 32 counters natLt_32_64

/-- … and the upper halves. -/
def highs : IVec S128x100000 32 := trunci 32 (Host.shrui counters (fill (constantI S_ 64 32#64))) natLt_32_64

/-- A counter as a number. -/
theorem counters_toNat (j : S128x100000.Idx) : (counters j).toNat = (j 0).val * 100000 + (j 1).val := by
  have h0 : (j 0).val < 128 := (j 0).isLt
  have h1 : (j 1).val < 100000 := (j 1).isLt
  show ((100000#64 * BitVec.ofNat 64 (j 0).val) + (1#64 * BitVec.ofNat 64 (j 1).val)).toNat = _
  rw [BitVec.toNat_add, BitVec.toNat_mul, BitVec.toNat_mul, BitVec.toNat_ofNat, BitVec.toNat_ofNat, BitVec.toNat_ofNat,
    BitVec.toNat_ofNat]
  omega

/-- The lower half is the whole counter, … -/
theorem lows_apply (j : S128x100000.Idx) : lows j = BitVec.ofNat 32 ((j 0).val * 100000 + (j 1).val) := by
  show BitVec.setWidth 32 (counters j) = _
  rw [← counters_toNat]
  rfl

/-- … and the upper half is zero. -/
theorem highs_apply (j : S128x100000.Idx) : highs j = 0#32 := by
  have h0 : (j 0).val < 128 := (j 0).isLt
  have h1 : (j 1).val < 100000 := (j 1).isLt
  apply BitVec.eq_of_toNat_eq
  show (BitVec.setWidth 32 (counters j >>> 32#64)).toNat = 0
  rw [BitVec.toNat_setWidth, BitVec.ushiftRight_eq', BitVec.toNat_ushiftRight, counters_toNat, Nat.shiftRight_eq_div_pow]
  show ((j 0).val * 100000 + (j 1).val) / 2 ^ 32 % 2 ^ 32 = 0
  have h : (j 0).val * 100000 + (j 1).val < 2 ^ 32 := by omega
  rw [Nat.div_eq_of_lt h]

/-! ## What the operations leave -/

variable (V : Valuation τ sig (Elt F))

/-- The deviates of an array of random words over a range. -/
def deviates (W : IVec S128x100000 32) (lo hi : FVec F S1x1 .f32) : FVec F S128x100000 .f32 :=
  maximumf (broadcastInDim S128x100000 ![0, 1] bcast_S1x1_S128x100000_0_1 lo)
    (addf (mulf
        (subf (bitcastToFloat .f32 (ori (Host.shrui W (fill (constantI S_ 32 9#32))) (fill (constantI S_ 32 1065353216#32))))
          (fill (constant S_ .f32 0x3F800000#32)))
        (broadcastInDim S128x100000 ![0, 1] bcast_S1x1_S128x100000_0_1 (subf hi lo)))
      (broadcastInDim S128x100000 ![0, 1] bcast_S1x1_S128x100000_0_1 lo))

/-- A constant as an array of one entry. -/
abbrev corner (b : BitVec 32) : FVec F S1x1 .f32 := broadcastInDim S1x1 ![] bcast_S_S1x1 (constant S_ .f32 b)

/-- The first group leaves the key and the range. -/
theorem after_key : after keyOps V main_v6 = key ∧ after keyOps V main_cst = (constant S_ .f32 0x00000000#32 : FVec F S_ .f32)
    ∧ after keyOps V main_cst_2 = (constant S_ .f32 0x3F800000#32 : FVec F S_ .f32) := by
  refine ⟨?_, ?_, ?_⟩ <;> (simp only [keyOps]; after_results_simp) <;> rfl

/-- The second leaves the key's words, … -/
theorem after_count_key : after countOps V main_call0_v5 = key0 (V main_v6) ∧ after countOps V main_call0_v7 = key1 (V main_v6) := by
  refine ⟨?_, ?_⟩ <;> (simp only [countOps]; after_results_simp) <;> rfl

/-- … the halves of the counters, … -/
theorem after_count : after countOps V main_call0_v18 = highs ∧ after countOps V main_call0_v17 = lows := by
  refine ⟨?_, ?_⟩ <;> (simp only [countOps]; after_results_simp) <;> rfl

/-- … and the range. -/
theorem after_count_range :
    after countOps V main_call0_v2 = (broadcastInDim S1x1 ![] bcast_S_S1x1 (V main_cst : FVec F S_ .f32) : FVec F S1x1 .f32)
      ∧ after countOps V main_call0_v3
        = (broadcastInDim S1x1 ![] bcast_S_S1x1 (V main_cst_2 : FVec F S_ .f32) : FVec F S1x1 .f32) := by
  refine ⟨?_, ?_⟩ <;> (simp only [countOps]; after_results_simp) <;> rfl

/-- The third leaves the third key word and the keyed counters … -/
theorem after_keyed : after keyedOps V main_call0_call0_v1 = xori (xori (V main_call0_v5 : Word F) (V main_call0_v7)) (constantI S_ 32 466688986#32)
    ∧ after keyedOps V main_call0_call0_v3 = addi (V main_call0_v18 : Words F) (fill (V main_call0_v5 : Word F))
    ∧ after keyedOps V main_call0_call0_v5 = addi (V main_call0_v17 : Words F) (fill (V main_call0_v7 : Word F)) := by
  refine ⟨?_, ?_, ?_⟩ <;> (simp only [keyedOps]; after_results_simp)

/-- … and keeps the first two and the range. -/
theorem keyed_keeps : after keyedOps V main_call0_v5 = V main_call0_v5 ∧ after keyedOps V main_call0_v7 = V main_call0_v7
    ∧ after keyedOps V main_call0_v2 = V main_call0_v2 ∧ after keyedOps V main_call0_v3 = V main_call0_v3 := by
  refine ⟨?_, ?_, ?_, ?_⟩ <;> (simp only [keyedOps]; after_results_simp)

/-- The last group leaves the deviates of the pairs' exclusive or. -/
theorem after_deviate : after deviateOps V main_v7
    = deviates (xori (V main_call0_v19_0 : Words F) (V main_call0_v19_1)) (V main_call0_v2) (V main_call0_v3) := by
  simp only [deviateOps]
  after_results_simp
  rfl

/-- What the groups before the instructions leave. -/
abbrev before : Valuation τ sig (Elt F) := after keyedOps (after countOps (after keyOps V))

theorem before_key0 : before V main_call0_v5 = (constantI S_ 32 0#32 : Word F) := by
  rw [before, (keyed_keeps _).1, (after_count_key _).1, (after_key V).1]
  exact key0_eq

theorem before_key1 : before V main_call0_v7 = (constantI S_ 32 42#32 : Word F) := by
  rw [before, (keyed_keeps _).2.1, (after_count_key _).2, (after_key V).1]
  exact key1_eq

theorem before_key2 : before V main_call0_call0_v1 = (constantI S_ 32 466689008#32 : Word F) := by
  rw [before, (after_keyed _).1, (after_count_key _).1, (after_count_key _).2, (after_key V).1]
  refine (congrArg₂ (fun a b => xori (xori a b) (constantI S_ 32 466688986#32)) key0_eq key1_eq).trans (funext fun _ => ?_)
  show IntOp.xori (IntOp.xori 0#32 42#32) 466688986#32 = 466689008#32
  decide

theorem before_left (j : S128x100000.Idx) : (before V main_call0_call0_v3 : Words F) j = 0#32 := by
  rw [before, (after_keyed _).2.1, (after_count _).1, (after_count_key _).1, (after_key V).1]
  refine (congrArg₂ IntOp.addi (highs_apply j) (congrFun (congrArg fill key0_eq) j)).trans ?_
  show IntOp.addi 0#32 0#32 = 0#32
  decide

theorem before_right (j : S128x100000.Idx) : (before V main_call0_call0_v5 : Words F) j
    = IntOp.addi (BitVec.ofNat 32 ((j 0).val * 100000 + (j 1).val)) 42#32 := by
  rw [before, (after_keyed _).2.2, (after_count _).2, (after_count_key _).2, (after_key V).1]
  exact congrArg₂ IntOp.addi (lows_apply j) (congrFun (congrArg fill key1_eq) j)

theorem before_low : before V main_call0_v2 = (corner 0x00000000#32 : Corner F) := by
  rw [before, (keyed_keeps _).2.2.1, (after_count_range _).1, (after_key V).2.1]

theorem before_high : before V main_call0_v3 = (corner 0x3F800000#32 : Corner F) := by
  rw [before, (keyed_keeps _).2.2.2, (after_count_range _).2, (after_key V).2.2]

/-- The instructions' earlier words are there. -/
theorem instrs_known : ∀ i ∈ instrs, i.known (before V) := by
  have h0 : held (before V) (.of main_call0_v5) = constantI Threefry.One 32 0#32 := before_key0 V
  have h1 : held (before V) (.of main_call0_v7) = constantI Threefry.One 32 42#32 := before_key1 V
  have h2 : held (before V) (.of main_call0_call0_v1) = constantI Threefry.One 32 466689008#32 := before_key2 V
  simp only [instrs, List.forall_mem_cons, Instr.known, h0, h1, h2, reduceCtorEq, List.not_mem_nil, false_imp_iff,
    implies_true, and_self, true_and]

/-- What the instructions leave of it. -/
abbrev moved : Valuation τ sig (Elt F) := after (chainOps bcast_S_S128x100000 instrs start) (before V)

/-- The pairs' exclusive or, after the instructions, is the array of random words. -/
theorem words_eq : (xori (moved V main_call0_v19_0 : Words F) (moved V main_call0_v19_1) : Words F) = words := by
  have hc := (chain bcast_S_S128x100000 42 instrs start (before V) 42 le_rfl (by decide) instrs_ordered instrs_early
    (instrs_known V)).1
  funext j
  have h := hc j
  rw [moves_eq, final_eq] at h
  have hl : held (before V) start.1 j = 0#32 := before_left V j
  have hr : held (before V) start.2 j = IntOp.addi (BitVec.ofNat 32 ((j 0).val * 100000 + (j 1).val)) 42#32 := before_right V j
  rw [hl, hr] at h
  have h1 := congrArg Prod.fst h
  have h2 := congrArg Prod.snd h
  exact congrArg₂ IntOp.xori h1 h2

/-- The instructions keep what was there before. -/
theorem moved_keeps {T : BufTy} (w : TRef sig T) (hw : Threefry.pos w < 42) : held (moved V) w = held (before V) w :=
  (chain bcast_S_S128x100000 42 instrs start (before V) 42 le_rfl (by decide) instrs_ordered instrs_early
    (instrs_known V)).2 w hw

/-- The draw ends with the deviates' group. -/
theorem after_drawOps : after drawOps V = after deviateOps (moved V) := by
  rw [drawOps, Threefry.after_append, Threefry.after_append, Threefry.after_append, Threefry.after_append]

/-- The draw leaves the deviates of the random words between zero and one … -/
theorem after_draw : after drawOps V main_v7 = (deviates words (corner 0x00000000#32) (corner 0x3F800000#32) : Floats F) := by
  have h2 : moved V main_call0_v2 = before V main_call0_v2 :=
    moved_keeps V (.of (T := ⟨S1x1, .f32⟩) main_call0_v2) (by decide)
  have h3 : moved V main_call0_v3 = before V main_call0_v3 :=
    moved_keeps V (.of (T := ⟨S1x1, .f32⟩) main_call0_v3) (by decide)
  rw [after_drawOps, after_deviate, words_eq, h2, h3, before_low, before_high]

/-- … and the logits. -/
theorem draw_keeps : after drawOps V main_arg0 = V main_arg0 := by
  have h : moved V main_arg0 = before V main_arg0 :=
    moved_keeps V (.of (T := ⟨S128x100000, .f32⟩) main_arg0) (by decide)
  have hd : ∀ V : Valuation τ sig (Elt F), after deviateOps V main_arg0 = V main_arg0 := fun V => by
    simp only [deviateOps]
    after_results_simp
  have hb : ∀ V : Valuation τ sig (Elt F), after keyedOps V main_arg0 = V main_arg0 := fun V => by
    simp only [keyedOps]
    after_results_simp
  have hc : ∀ V : Valuation τ sig (Elt F), after countOps V main_arg0 = V main_arg0 := fun V => by
    simp only [countOps]
    after_results_simp
  have hk : after keyOps V main_arg0 = V main_arg0 := by
    simp only [keyOps]
    after_results_simp
  rw [after_drawOps, hd, h, before, hb, hc, hk]

/-- Its operations work on buffers of the program … -/
theorem drawOps_sub : (drawOps : List (HloOp τ sig (Elt F))).Forall fun op => op.bufs ⊆ tcRefs τ sig := by
  refine List.forall_append.2 ⟨?_, List.forall_append.2 ⟨?_, List.forall_append.2 ⟨?_, List.forall_append.2
    ⟨Threefry.chainOps_sub .., ?_⟩⟩⟩⟩ <;>
    simp only [keyOps, countOps, keyedOps, deviateOps, List.Forall, nullary_bufs_sub, unary_bufs_sub, binary_bufs_sub,
      reshape_bufs_sub, and_self]

/-- … and make no new ones. -/
theorem drawOps_fresh : (drawOps : List (HloOp τ sig (Elt F))).Forall fun op => op.fresh = ∅ := by
  refine List.forall_append.2 ⟨?_, List.forall_append.2 ⟨?_, List.forall_append.2 ⟨?_, List.forall_append.2
    ⟨Threefry.chainOps_fresh .., ?_⟩⟩⟩⟩ <;>
    (simp only [keyOps, countOps, keyedOps, deviateOps, List.Forall]; repeat' constructor)

end Cert.ReferenceIdeal.Draw

end
-- ==== Proof.Steps.lean ====
/-
  The reference program, run: its operations in four groups, the draw of the uniform deviates, their noise, its rounding to half
  precision, and the softmax of the noisy logits, and the array that each group leaves.
-/
module

public import proofs.«01_k».proof.Proof.Draw
public import Idealize.ShloMosaic.Lib.StableHlo.Run
public import Idealize.ShloMosaic.PureOps.Ideal

@[expose] public section

set_option maxRecDepth 16384

noncomputable section

namespace Cert.ReferenceIdeal.Steps

open Cert.ReferenceIdeal Cert.ReferenceIdeal.Gen Idealize.ShloMosaic Idealize.ShloMosaic.TcCoe Idealize.SL.Sem
open Idealize.ShloMosaic.StableHlo
open Draw

variable {F : FTy → Type} [FloatOps F]

/-! ## The arrays -/

/-- A float constant over the array. -/
abbrev all (b : BitVec 32) : FVec F S128x100000 .f32 :=
  broadcastInDim S128x100000 ![] bcast_S_S128x100000 (constant S_ .f32 b)

/-- Minus the logarithm of an array raised by 1e-10. -/
def minusLogs (u : FVec F S128x100000 .f32) : FVec F S128x100000 .f32 := Host.negf (Host.log (addf u (all 0x2EDBE6FF#32)))

/-- The noise of an array of uniform deviates. -/
def noises (U : FVec F S128x100000 .f32) : FVec F S128x100000 .f32 := minusLogs (minusLogs U)

/-- The distance between neighbouring half-precision numbers at the entries. -/
def spacings (A : FVec F S128x100000 .f32) : FVec F S128x100000 .f32 :=
  Host.powf (all 0x40000000#32)
    (subf (Host.floor (Host.divf (Host.log (maximumf A (all 0x38800000#32)))
      (broadcastInDim S128x100000 ![] bcast_S_S128x100000 (Host.log (constant S_ .f32 0x40000000#32)))))
      (all 0x41200000#32))

/-- The multiples of that distance nearest the entries. -/
def multiples (A : FVec F S128x100000 .f32) : FVec F S128x100000 .f32 :=
  mulf (Host.roundeven (Host.divf A (spacings A))) (spacings A)

/-- Entries below 2 ^ -14 moved half the way there. -/
def lifts (H : FVec F S128x100000 .f32) : FVec F S128x100000 .f32 :=
  select (cmpf .olt H (all 0x38800000#32)) (Host.divf (addf H (all 0x38800000#32)) (all 0x40000000#32)) H

/-- The noise rounded to half precision. -/
def roundeds (G : FVec F S128x100000 .f32) : FVec F S128x100000 .f32 :=
  select (cmpf .olt G (all 0x00000000#32)) (Host.negf (lifts (multiples (Host.absf G)))) (lifts (multiples (Host.absf G)))

/-- The logits with the noise, over the temperature. -/
def scaled (X N : FVec F S128x100000 .f32) : FVec F S128x100000 .f32 := Host.divf (addf X N) (all 0x3F800000#32)

/-- A vector of row values made a column and broadcast over the array. -/
abbrev spread (u : FVec F S128 .f32) : FVec F S128x100000 .f32 :=
  broadcastInDim S128x100000 ![0, 1] bcast_S128x1_S128x100000_0_1 (broadcastInDim S128x1 ![0] bcast_S128_S128x1_0 u)

/-- The row maxima: the larger of minus infinity and the maximum reduction. -/
def tops (y : FVec F S128x100000 .f32) : FVec F S128 .f32 :=
  maximumf (broadcastInDim S128 ![] bcast_S_S128 (constant S_ .f32 0xFF800000#32))
    (Host.reduce FloatOps.maximumf y (constant S_ .f32 0xFF800000#32) reducesTo_S128x100000_S128_d1 h_S_)

/-- The row sums. -/
def sums (e : FVec F S128x100000 .f32) : FVec F S128 .f32 :=
  Host.reduceAdd e (constant S_ .f32 0x00000000#32) reducesTo_S128x100000_S128_d1 h_S_

/-- The exponentials of the entries less their row's maximum. -/
def exps (y : FVec F S128x100000 .f32) : FVec F S128x100000 .f32 := Host.exp (subf y (spread (tops y)))

/-- The exponentials over their row's sum. -/
def quotients (y : FVec F S128x100000 .f32) : FVec F S128x100000 .f32 := Host.divf (exps y) (spread (sums (exps y)))

/-! ## The operations -/

/-- The noise of the uniform deviates. -/
abbrev noiseOps : List (HloOp τ sig (Elt F)) :=
  [ nullary main_cst_3 (constant S_ .f32 0x2EDBE6FF#32),
    unary main_cst_3 main_v8 fill,
    binary main_v7 main_v8 main_v9 (addf : Floats F → Floats F → Floats F),
    unary main_v9 main_v10 (Host.log : Floats F → Floats F),
    unary main_v10 main_v11 (Host.negf : Floats F → Floats F),
    nullary main_cst_4 (constant S_ .f32 0x2EDBE6FF#32),
    unary main_cst_4 main_v12 fill,
    binary main_v11 main_v12 main_v13 (addf : Floats F → Floats F → Floats F),
    unary main_v13 main_v14 (Host.log : Floats F → Floats F),
    unary main_v14 main_v15 (Host.negf : Floats F → Floats F) ]

/-- Its rounding. -/
abbrev roundOps : List (HloOp τ sig (Elt F)) :=
  [ unary main_v15 main_v16 (Host.absf : Floats F → Floats F),
    nullary main_cst_5 (constant S_ .f32 0x38800000#32),
    unary main_cst_5 main_v17 fill,
    binary main_v16 main_v17 main_v18 (maximumf : Floats F → Floats F → Floats F),
    unary main_v18 main_v19 (Host.log : Floats F → Floats F),
    nullary main_cst_6 (constant S_ .f32 0x40000000#32),
    unary main_cst_6 main_v20 (Host.log : Float F → Float F),
    unary main_v20 main_v21 (id : Float F → Float F),
    unary main_v21 main_v22 fill,
    binary main_v19 main_v22 main_v23 (Host.divf : Floats F → Floats F → Floats F),
    unary main_v23 main_v24 (Host.floor : Floats F → Floats F),
    nullary main_cst_7 (constant S_ .f32 0x41200000#32),
    unary main_cst_7 main_v25 fill,
    binary main_v24 main_v25 main_v26 (subf : Floats F → Floats F → Floats F),
    nullary main_cst_8 (constant S_ .f32 0x40000000#32),
    unary main_cst_8 main_v27 fill,
    binary main_v27 main_v26 main_v28 (Host.powf : Floats F → Floats F → Floats F),
    binary main_v16 main_v28 main_v29 (Host.divf : Floats F → Floats F → Floats F),
    TRef.unary (TRef.of (T := ⟨S128x100000, .f32⟩) main_v29) (TRef.of (T := ⟨S128x100000, .f32⟩) main_v30) Host.roundeven,
    binary main_v30 main_v28 main_v31 (mulf : Floats F → Floats F → Floats F),
    nullary main_cst_9 (constant S_ .f32 0x38800000#32),
    unary main_cst_9 main_v32 fill,
    binary main_v31 main_v32 main_v33 (cmpf .olt : Floats F → Floats F → Truths F),
    nullary main_cst_10 (constant S_ .f32 0x38800000#32),
    unary main_cst_10 main_v34 fill,
    binary main_v31 main_v34 main_v35 (addf : Floats F → Floats F → Floats F),
    nullary main_cst_11 (constant S_ .f32 0x40000000#32),
    unary main_cst_11 main_v36 fill,
    binary main_v35 main_v36 main_v37 (Host.divf : Floats F → Floats F → Floats F),
    TRef.ternary (TRef.of (T := ⟨S128x100000, .i1⟩) main_v33) (TRef.of (T := ⟨S128x100000, .f32⟩) main_v37) (TRef.of (T := ⟨S128x100000, .f32⟩) main_v31) (TRef.of (T := ⟨S128x100000, .f32⟩) main_v38) select,
    nullary main_cst_12 (constant S_ .f32 0x00000000#32),
    unary main_cst_12 main_v39 fill,
    binary main_v15 main_v39 main_v40 (cmpf .olt : Floats F → Floats F → Truths F),
    unary main_v38 main_v41 (Host.negf : Floats F → Floats F),
    TRef.ternary (TRef.of (T := ⟨S128x100000, .i1⟩) main_v40) (TRef.of (T := ⟨S128x100000, .f32⟩) main_v41) (TRef.of (T := ⟨S128x100000, .f32⟩) main_v38) (TRef.of (T := ⟨S128x100000, .f32⟩) main_v42) select ]

/-- The softmax. -/
abbrev softmaxOps : List (HloOp τ sig (Elt F)) :=
  [ binary main_arg0 main_v42 main_v43 (addf : Floats F → Floats F → Floats F),
    nullary main_cst_13 (constant S_ .f32 0x3F800000#32),
    unary main_cst_13 main_v44 fill,
    binary main_v43 main_v44 main_v45 (Host.divf : Floats F → Floats F → Floats F),
    nullary main_cst_14 (constant S_ .f32 0xFF800000#32),
    binary main_v45 main_cst_14 main_v46 (fun x v => Host.reduce FloatOps.maximumf x v reducesTo_S128x100000_S128_d1 h_S_),
    nullary main_cst_15 (constant S_ .f32 0xFF800000#32),
    unary main_cst_15 main_v47 (broadcastInDim S128 ![] bcast_S_S128),
    binary main_v47 main_v46 main_v48 (maximumf : Row F → Row F → Row F),
    unary main_v48 main_v49 (broadcastInDim S128x1 ![0] bcast_S128_S128x1_0),
    unary main_v49 main_v50 (broadcastInDim S128x100000 ![0, 1] bcast_S128x1_S128x100000_0_1),
    binary main_v45 main_v50 main_v51 (subf : Floats F → Floats F → Floats F),
    unary main_v51 main_v52 (Host.exp : Floats F → Floats F),
    nullary main_cst_16 (constant S_ .f32 0x00000000#32),
    binary main_v52 main_cst_16 main_v53 (fun x v => Host.reduceAdd x v reducesTo_S128x100000_S128_d1 h_S_),
    unary main_v53 main_v54 (broadcastInDim S128x1 ![0] bcast_S128_S128x1_0),
    unary main_v54 main_v55 (broadcastInDim S128x100000 ![0, 1] bcast_S128x1_S128x100000_0_1),
    binary main_v52 main_v55 main_v56 (Host.divf : Floats F → Floats F → Floats F) ]

/-- The whole program. -/
abbrev ops : List (HloOp τ sig (Elt F)) := drawOps ++ (noiseOps ++ (roundOps ++ softmaxOps))

set_option maxHeartbeats 4000000 in
/-- It is what the reference runs. -/
theorem main_eq (c : Dev nD) : main (F := F) c = seq ops := rfl

/-- It has no scoped buffers … -/
theorem scopedRefs_eq : (Finset.univ.filter fun b : Ref sig .tc => b.isScoped) = ∅ := by decide

/-- … and no scoped semaphores. -/
theorem scopedSems_eq : (Finset.univ.filter fun sm : SemLoc sig => sm.isScoped .tc) = ∅ := by decide

/-- Its operations work on buffers of the program … -/
theorem ops_sub : (ops : List (HloOp τ sig (Elt F))).Forall fun op => op.bufs ⊆ tcRefs τ sig := by
  refine List.forall_append.2 ⟨drawOps_sub, ?_⟩
  simp only [noiseOps, roundOps, softmaxOps, List.cons_append, List.nil_append, List.Forall, TRef.unary, TRef.ternary,
    nullary_bufs_sub, unary_bufs_sub, binary_bufs_sub, ternary_bufs_sub, and_self]

/-- … and make no new ones. -/
theorem ops_fresh : (ops : List (HloOp τ sig (Elt F))).Forall fun op => op.fresh = ∅ := by
  refine List.forall_append.2 ⟨drawOps_fresh, ?_⟩
  simp only [noiseOps, roundOps, softmaxOps, List.cons_append, List.nil_append, List.Forall]
  repeat' constructor

/-! ## What the groups leave -/

variable (V : Valuation τ sig (Elt F))

set_option maxHeartbeats 1000000 in
/-- The second group leaves the noise … -/
theorem after_noise : after noiseOps V main_v15 = noises (V main_v7) := by
  simp only [noiseOps]
  after_results_simp
  rfl

/-- … and the logits. -/
theorem noise_keeps : after noiseOps V main_arg0 = V main_arg0 := by
  simp only [noiseOps]
  after_results_simp

set_option maxHeartbeats 1000000 in
/-- The third group leaves the rounded noise … -/
theorem after_round : after roundOps V main_v42 = roundeds (V main_v15) := by
  simp only [roundOps, TRef.ternary, TRef.unary, TRef.toBuf, TRef.ofBuf, cast_eq]
  after_results_simp
  rfl

/-- … and the logits. -/
theorem round_keeps : after roundOps V main_arg0 = V main_arg0 := by
  simp only [roundOps, TRef.ternary, TRef.unary, TRef.toBuf, TRef.ofBuf, cast_eq]
  after_results_simp

set_option maxHeartbeats 1000000 in
/-- The last group leaves the softmax … -/
theorem after_softmax : after softmaxOps V main_v56 = quotients (scaled (V main_arg0) (V main_v42)) := by
  simp only [softmaxOps]
  after_results_simp
  rfl

/-- … and the logits. -/
theorem softmax_keeps : after softmaxOps V main_arg0 = V main_arg0 := by
  simp only [softmaxOps]
  after_results_simp

/-- The deviates that the program draws. -/
abbrev drawn : FVec F S128x100000 .f32 := deviates Threefry.words (corner 0x00000000#32) (corner 0x3F800000#32)

/-- The result of the whole program. -/
theorem after_ops : after ops V main_v56 = quotients (scaled (V main_arg0) (roundeds (noises drawn))) := by
  rw [ops, Threefry.after_append, Threefry.after_append, Threefry.after_append, after_softmax, after_round, after_noise, after_draw,
    round_keeps, noise_keeps, draw_keeps]

/-- The whole program leaves the logits. -/
theorem ops_keep : after ops V main_arg0 = V main_arg0 := by
  rw [ops, Threefry.after_append, Threefry.after_append, Threefry.after_append, softmax_keeps, round_keeps, noise_keeps, draw_keeps]

variable (m : (ℓ : Loc nD τ sig) → Buf (Elt F) ℓ) (ρ : Dev nD → PrngReg)

/-- Every run of the reference ends with that result and with the logits unchanged. -/
theorem run : θ_run defs (onTc (τ := τ) (main (F := F))) ⟨m, fun _ => 0, ρ⟩ fun r => ∀ c : Dev nD,
      r.2.mem ((c.tc : Thread nD τ).loc main_v56)
          = quotients (scaled (m ((c.tc : Thread nD τ).loc main_arg0)) (roundeds (noises drawn)))
      ∧ r.2.mem ((c.tc : Thread nD τ).loc main_arg0) = m ((c.tc : Thread nD τ).loc main_arg0) :=
  (θ_run defs _ _).mono (fun _ h c => ⟨(h c main_v56).trans (after_ops _), (h c main_arg0).trans (ops_keep _)⟩)
    (run_seq scopedRefs_eq scopedSems_eq defs main (fun _ => ops) main_eq (fun _ => ops_sub) m ρ
      (fun _ => List.forall_iff_forall_mem.1 ops_fresh))

end Cert.ReferenceIdeal.Steps

end
-- ==== Proof.Reference.lean ====
/-
  The reference's result: the row softmax of the same noisy logits.
-/
module

public import proofs.«01_k».proof.Proof.Sample
public import proofs.«01_k».proof.Proof.Steps
public import Idealize.ShloMosaic.Lib.Pipeline.Value

@[expose] public section

set_option maxRecDepth 16384

noncomputable section

namespace Cert.ReferenceIdeal.Rows

open Cert.ReferenceIdeal Cert.ReferenceIdeal.Gen Cert.ReferenceIdeal.Draw Cert.ReferenceIdeal.Steps Idealize.ShloMosaic Idealize.ShloMosaic.TcCoe Idealize.SL.Sem
open Idealize.ShloMosaic.ValueIdx

/-! ## The noise -/

/-- The deviate drawn for an entry is that of its random word, … -/
theorem deviates_apply (W : IVec S128x100000 32) (i : S128x100000.Idx) :
    deviates (F := Ideal) W (corner 0x00000000#32) (corner 0x3F800000#32) i = Sample.uniform (W i) :=
  Sample.range_uniform (W i)

/-- … the noise is made entry by entry, … -/
theorem noises_apply (U : FVec Ideal S128x100000 .f32) (i : S128x100000.Idx) : noises U i = Sample.gumbel (U i) := rfl

/-- … so that it is the word's, … -/
theorem noises_drawn (W : IVec S128x100000 32) (i : S128x100000.Idx) :
    noises (F := Ideal) (deviates W (corner 0x00000000#32) (corner 0x3F800000#32)) i = Sample.noise (W i) := by
  rw [noises_apply, deviates_apply]
  rfl

/-- … and its rounding is made entry by entry. -/
theorem roundeds_apply (G : FVec Ideal S128x100000 .f32) (i : S128x100000.Idx) : roundeds G i = Rounding.rounded (G i) := rfl

/-- At temperature one the logits with the rounded noise are the noisy logits. -/
theorem scaled_apply (X : FVec Ideal S128x100000 .f32) (W : IVec S128x100000 32) (i : S128x100000.Idx) :
    scaled X (roundeds (noises (deviates W (corner 0x00000000#32) (corner 0x3F800000#32)))) i = Sample.noisyLogits X W i := by
  refine (Softmax.div_one_bits _).trans ?_
  refine congrArg (FloatOps.addf (X i)) ?_
  rw [roundeds_apply, noises_drawn]

/-! ## The softmax -/

/-- A vector of row values, broadcast over the array, reads the row's value everywhere. -/
theorem spread_apply (u : FVec Ideal S128 .f32) (r : Fin 128) (k : Fin 100000) : spread u (ix2 r k) = u (ix1 r) := by
  refine (broadcastInDim_apply ![0, 1] bcast_S128x1_S128x100000_0_1 _ (ix2 r k) (ix2 r (0 : Fin 1)) (fun a => by
    match a with
    | ⟨0, _⟩ => rfl
    | ⟨1, _⟩ => rfl)).trans ?_
  exact broadcastInDim_apply ![0] bcast_S128_S128x1_0 u (ix2 r (0 : Fin 1)) (ix1 r) (fun a => by
    match a with
    | ⟨0, _⟩ => rfl)

/-- Reducing the columns drops the second coordinate, … -/
theorem drops : S128x100000.Reduces [1] S128 := by decide

/-- … so the index over row `r` with dropped coordinate `k` is `(r, k)`. -/
theorem lift_row (r : Fin 128) (k : Fin 100000) : drops.lift (ix1 r) k = ix2 r k := by
  funext a
  match a with
  | ⟨0, _⟩ => rfl
  | ⟨1, _⟩ => rfl

/-- Taking the larger of minus infinity and a row value changes nothing. -/
theorem max_bot (u : FVec Ideal S128 .f32) (j : S128.Idx) :
    maximumf (broadcastInDim S128 ![] bcast_S_S128 (constant S_ .f32 0xFF800000#32)) u j = u j := by
  show max (FloatOps.ofBits .f32 0xFF800000#32 : Ideal .f32) (u j) = u j
  rw [Softmax.ofBits_bot]
  exact max_eq_right bot_le

/-- The maximum reduction of the array, at a row, is the row's largest entry, … -/
theorem reduce_apply (y : FVec Ideal S128x100000 .f32) (init : FVec Ideal S_ .f32) (h0 : init (Shape.Idx.first h_S_) = (⊥ : EReal))
    (r : Fin 128) :
    Host.reduce FloatOps.maximumf y init reducesTo_S128x100000_S128_d1 h_S_ (ix1 r) = Softmax.rowMax (fun q => y (ix2 r q)) := by
  have e := Host.reduce_eq_fold_single (max : EReal → EReal → EReal) y init reducesTo_S128x100000_S128_d1 drops h_S_ (ix1 r)
  rw [h0] at e
  exact e.trans (Finset.fold_congr fun q _ => congrArg y (lift_row r q))

/-- … and so is the reference's row maximum. -/
theorem tops_apply (y : FVec Ideal S128x100000 .f32) (r : Fin 128) :
    tops y (ix1 r) = Softmax.rowMax (fun q => y (ix2 r q)) :=
  (max_bot _ (ix1 r)).trans (reduce_apply y _ Softmax.ofBits_bot r)

/-- The reference's row sum at a row is the sum of the row. -/
theorem sums_apply (e : FVec Ideal S128x100000 .f32) (r : Fin 128) :
    sums e (ix1 r) = ∑ q : Fin 100000, (e (ix2 r q) : EReal) := by
  refine (Ideal.hostReduceAdd_single reducesTo_S128x100000_S128_d1 drops e
    (FloatOps.ofBits .f32 0x00000000#32 : Ideal .f32) (ix1 r)).trans ?_
  rw [Softmax.ofBits_zero, zero_add]
  exact Finset.sum_congr rfl fun q _ => congrArg e (lift_row r q)

/-- The exponentials at an index. -/
theorem exps_apply (y : FVec Ideal S128x100000 .f32) (r : Fin 128) (k : Fin 100000) :
    exps y (ix2 r k) = Ideal.exp (y (ix2 r k) - Softmax.rowMax (fun q => y (ix2 r q))) := by
  rw [← tops_apply, ← spread_apply (tops y) r k]
  rfl

/-- A quotient of arrays at an index. -/
theorem divf_apply (a b : FVec Ideal S128x100000 .f32) (i : S128x100000.Idx) : Host.divf a b i = Ideal.div (a i) (b i) := rfl

/-- The exponentials over their sums: at an index, the softmax of its row. -/
theorem quotient_apply (y : FVec Ideal S128x100000 .f32) (r : Fin 128) (k : Fin 100000) :
    quotients y (ix2 r k) = Softmax.softmax (fun q => y (ix2 r q)) k := by
  have hs : spread (sums (exps y)) (ix2 r k) = ∑ q : Fin 100000, Ideal.exp (y (ix2 r q) - Softmax.rowMax (fun q => y (ix2 r q))) :=
    ((spread_apply _ r k).trans (sums_apply _ r)).trans (Finset.sum_congr rfl fun q _ => exps_apply y r q)
  unfold quotients
  rw [divf_apply, hs, exps_apply]
  rfl

/-! ## The result -/

/-- The reference's result is the row softmax of the noisy logits. -/
theorem result_eq (X : FVec Ideal S128x100000 .f32) (W : IVec S128x100000 32) :
    quotients (scaled X (roundeds (noises (deviates W (corner 0x00000000#32) (corner 0x3F800000#32))))) = Sample.result X W := by
  funext i
  obtain ⟨r, k, rfl⟩ : ∃ (r : Fin 128) (k : Fin 100000), i = (ix2 r k : S128x100000.Idx) := ⟨i 0, i 1, eq_ix2 i⟩
  refine (quotient_apply _ r k).trans ?_
  exact congrArg (fun f => Softmax.softmax f k) (funext fun q => scaled_apply _ _ (ix2 r q))

end Cert.ReferenceIdeal.Rows

end
-- ==== Proof.lean ====
/-
  The proof of `Cert.Claim`: the kernel, its idealization and the reference run and leave their arguments unchanged with every
  semaphore at zero, and at exact arithmetic the kernel's result is the reference's, the row softmax of the noisy logits.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs, keeps its arguments and ends with every semaphore at zero. -/
theorem quiescent_kernel : Cert.quiescent_Kernel (hKernel := Cert.Kernel.Gen.facts) :=
  fun m ρ _ => Cert.Kernel.Gen.frame m ρ

/-- So does its idealization, … -/
theorem quiescent_kernelIdeal : Cert.quiescent_KernelIdeal (hKernelIdeal := Cert.KernelIdeal.Gen.facts) :=
  fun m ρ _ => Cert.KernelIdeal.Gen.frame m ρ

/-- … and so does the reference, which owns no semaphore. -/
theorem quiescent_referenceIdeal : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Steps.run (F := Ideal) m ρ)

/-- At exact arithmetic the kernel and the reference end with equal results: each is the row softmax of the noisy logits. -/
theorem algebraic : Cert.algebraic_KernelIdeal_ReferenceIdeal (hKernelIdeal := Cert.KernelIdeal.Gen.facts)
    (hReferenceIdeal := Cert.ReferenceIdeal.Gen.facts) := by
  intro m ρ m' ρ' _ hargs
  refine ⟨Cert.KernelIdeal.Array.result m,
    (θ_run Cert.KernelIdeal.defs _ _).mono
      (fun r h c => ⟨(h c).1.trans (Cert.KernelIdeal.Array.final m c), (h c).2⟩)
      (Cert.KernelIdeal.Value.run_blocks m ρ),
    (θ_run Cert.ReferenceIdeal.defs _ _).mono
      (fun r h c => ⟨(h c).1.trans ((Cert.ReferenceIdeal.Rows.result_eq _ _).trans ?_), (h c).2⟩)
      (Cert.ReferenceIdeal.Steps.run (F := Ideal) m' ρ')⟩
  rw [hargs c]

/-- Every claim of the certificate. -/
theorem claim : Cert.Claim :=
  ⟨Cert.Kernel.Gen.facts, Cert.KernelIdeal.Gen.facts, Cert.ReferenceIdeal.Gen.facts,
    quiescent_kernel, quiescent_kernelIdeal, quiescent_referenceIdeal, trivial, algebraic⟩

end Cert.Proof

end
